-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x8192 : Shape := ⟨3, ![1, 128, 8192]⟩
abbrev S1 : Shape := ⟨1, ![1]⟩
abbrev S8192x7168 : Shape := ⟨2, ![8192, 7168]⟩
abbrev S7168 : Shape := ⟨1, ![7168]⟩
abbrev S1x128x7168 : Shape := ⟨3, ![1, 128, 7168]⟩
abbrev S128x8192 : Shape := ⟨2, ![128, 8192]⟩
abbrev S1x7168 : Shape := ⟨2, ![1, 7168]⟩
abbrev S128x7168 : Shape := ⟨2, ![128, 7168]⟩
abbrev S8192x512 : Shape := ⟨2, ![8192, 512]⟩
abbrev S1x512 : Shape := ⟨2, ![1, 512]⟩
abbrev S128x512 : Shape := ⟨2, ![128, 512]⟩
abbrev S1x1x1 : Shape := ⟨3, ![1, 1, 1]⟩
abbrev S128 : Shape := ⟨1, ![128]⟩
abbrev S128x1 : Shape := ⟨2, ![128, 1]⟩

abbrev nBuf : Space → Nat
  | .hbm => 19
  | .vmem => 13
  | .smem => 4
  | _ => 0

abbrev bufTy : (tb : Table) → Fin (tcTables nBuf tb) → BufTy
  | .hbm, ⟨0, _⟩ => ⟨S1x128x8192, .bf16⟩
  | .hbm, ⟨1, _⟩ => ⟨S1, .f32⟩
  | .hbm, ⟨2, _⟩ => ⟨S8192x7168, .fp8e4m3⟩
  | .hbm, ⟨3, _⟩ => ⟨S7168, .f32⟩
  | .hbm, ⟨4, _⟩ => ⟨S1x128x7168, .bf16⟩
  | .hbm, ⟨5, _⟩ => ⟨S7168, .bf16⟩
  | .hbm, ⟨6, _⟩ => ⟨S1, .f32⟩
  | .hbm, ⟨7, _⟩ => ⟨S128x8192, .bf16⟩
  | .hbm, ⟨8, _⟩ => ⟨S1x7168, .f32⟩
  | .hbm, ⟨9, _⟩ => ⟨S128x7168, .bf16⟩
  | .hbm, ⟨10, _⟩ => ⟨S1x7168, .bf16⟩
  | .hbm, ⟨11, _⟩ => ⟨S128x7168, .bf16⟩
  | .hbm, ⟨12, _⟩ => ⟨S128x8192, .fp8e4m3⟩
  | .hbm, ⟨13, _⟩ => ⟨S128x7168, .fp8e4m3⟩
  | .hbm, ⟨14, _⟩ => ⟨S1, .f32⟩
  | .hbm, ⟨15, _⟩ => ⟨S1, .f32⟩
  | .hbm, ⟨16, _⟩ => ⟨S1x128x7168, .bf16⟩
  | .hbm, ⟨17, _⟩ => ⟨S1x128x8192, .fp8e4m3⟩
  | .hbm, ⟨18, _⟩ => ⟨S1x128x7168, .fp8e4m3⟩
  | .local _ .vmem, ⟨0, _⟩ => ⟨S128x8192, .bf16⟩
  | .local _ .vmem, ⟨1, _⟩ => ⟨S8192x512, .fp8e4m3⟩
  | .local _ .vmem, ⟨2, _⟩ => ⟨S8192x512, .fp8e4m3⟩
  | .local _ .vmem, ⟨3, _⟩ => ⟨S1x512, .f32⟩
  | .local _ .vmem, ⟨4, _⟩ => ⟨S1x512, .f32⟩
  | .local _ .vmem, ⟨5, _⟩ => ⟨S128x512, .bf16⟩
  | .local _ .vmem, ⟨6, _⟩ => ⟨S128x512, .bf16⟩
  | .local _ .vmem, ⟨7, _⟩ => ⟨S1x7168, .bf16⟩
  | .local _ .vmem, ⟨8, _⟩ => ⟨S128x512, .bf16⟩
  | .local _ .vmem, ⟨9, _⟩ => ⟨S128x512, .bf16⟩
  | .local _ .vmem, ⟨10, _⟩ => ⟨S128x8192, .fp8e4m3⟩
  | .local _ .vmem, ⟨11, _⟩ => ⟨S128x7168, .fp8e4m3⟩
  | .local _ .vmem, ⟨12, _⟩ => ⟨S128x7168, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_stg10_0 : Ref sig .tc := ⟨.smem, 2, rfl⟩
abbrev cc0_stg11_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![14], ![false]⟩

def k0_mult1 (i : grid0.Coords) : BitVec 32 :=
  let arg0 : BitVec 32 := BitVec.ofNat 32 (i 0).val
  let c512_i32 : BitVec 32 := 512#32
  let v20 : BitVec 32 := Scalar.muli arg0 c512_i32
  v20
def k0_off1 (i : grid0.Coords) : Fin 2 → Nat :=
  let c0_11 : Index := 0#32
  let arg0 : BitVec 32 := BitVec.ofNat 32 (i 0).val
  let c512_i32 : BitVec 32 := 512#32
  let v20 : BitVec 32 := Scalar.muli arg0 c512_i32
  let v21 : BitVec 32 := v20
  let v22 : Index := Scalar.indexCast v21
  ![0, v22.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c13_i32 : BitVec 32 := 13#32
  let v26 : BitVec 1 := Scalar.cmpi .eq arg0 c13_i32
  let v27 : BitVec 32 := Scalar.extui v26
  let c0_i32_12 : BitVec 32 := 0#32
  let v28 : BitVec 1 := Scalar.cmpi .ne v27 c0_i32_12
  v28

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1x128x8192 : Shape := ⟨3, ![1, 128, 8192]⟩
abbrev S1 : Shape := ⟨1, ![1]⟩
abbrev S8192x7168 : Shape := ⟨2, ![8192, 7168]⟩
abbrev S7168 : Shape := ⟨1, ![7168]⟩
abbrev S1x128x7168 : Shape := ⟨3, ![1, 128, 7168]⟩
abbrev S128x8192 : Shape := ⟨2, ![128, 8192]⟩
abbrev S1x1 : Shape := ⟨2, ![1, 1]⟩
abbrev S1x7168 : Shape := ⟨2, ![1, 7168]⟩
abbrev S128x7168 : Shape := ⟨2, ![128, 7168]⟩
abbrev S1x1x1 : Shape := ⟨3, ![1, 1, 1]⟩
abbrev S128 : Shape := ⟨1, ![128]⟩
abbrev S128x1 : Shape := ⟨2, ![128, 1]⟩

abbrev nBuf : Space → Nat
  | .hbm => 23
  | .vmem => 12
  | .smem => 0
  | _ => 0

abbrev bufTy : (tb : Table) → Fin (tcTables nBuf tb) → BufTy
  | .hbm, ⟨0, _⟩ => ⟨S1x128x8192, .bf16⟩
  | .hbm, ⟨1, _⟩ => ⟨S1, .f32⟩
  | .hbm, ⟨2, _⟩ => ⟨S8192x7168, .fp8e4m3⟩
  | .hbm, ⟨3, _⟩ => ⟨S7168, .f32⟩
  | .hbm, ⟨4, _⟩ => ⟨S1x128x7168, .bf16⟩
  | .hbm, ⟨5, _⟩ => ⟨S7168, .bf16⟩
  | .hbm, ⟨6, _⟩ => ⟨S1, .f32⟩
  | .hbm, ⟨7, _⟩ => ⟨S128x8192, .bf16⟩
  | .hbm, ⟨8, _⟩ => ⟨S1x1, .f32⟩
  | .hbm, ⟨9, _⟩ => ⟨S1x7168, .f32⟩
  | .hbm, ⟨10, _⟩ => ⟨S128x7168, .bf16⟩
  | .hbm, ⟨11, _⟩ => ⟨S1x7168, .bf16⟩
  | .hbm, ⟨12, _⟩ => ⟨S1x1, .f32⟩
  | .hbm, ⟨13, _⟩ => ⟨S128x7168, .bf16⟩
  | .hbm, ⟨14, _⟩ => ⟨S128x8192, .fp8e4m3⟩
  | .hbm, ⟨15, _⟩ => ⟨S128x7168, .fp8e4m3⟩
  | .hbm, ⟨16, _⟩ => ⟨S1x1, .f32⟩
  | .hbm, ⟨17, _⟩ => ⟨S1x1, .f32⟩
  | .hbm, ⟨18, _⟩ => ⟨S1x128x7168, .bf16⟩
  | .hbm, ⟨19, _⟩ => ⟨S1x128x8192, .fp8e4m3⟩
  | .hbm, ⟨20, _⟩ => ⟨S1x128x7168, .fp8e4m3⟩
  | .hbm, ⟨21, _⟩ => ⟨S1, .f32⟩
  | .hbm, ⟨22, _⟩ => ⟨S1, .f32⟩
  | .local _ .vmem, ⟨0, _⟩ => ⟨S128x8192, .bf16⟩
  | .local _ .vmem, ⟨1, _⟩ => ⟨S1x1, .f32⟩
  | .local _ .vmem, ⟨2, _⟩ => ⟨S8192x7168, .fp8e4m3⟩
  | .local _ .vmem, ⟨3, _⟩ => ⟨S1x7168, .f32⟩
  | .local _ .vmem, ⟨4, _⟩ => ⟨S128x7168, .bf16⟩
  | .local _ .vmem, ⟨5, _⟩ => ⟨S1x7168, .bf16⟩
  | .local _ .vmem, ⟨6, _⟩ => ⟨S1x1, .f32⟩
  | .local _ .vmem, ⟨7, _⟩ => ⟨S128x7168, .bf16⟩
  | .local _ .vmem, ⟨8, _⟩ => ⟨S128x8192, .fp8e4m3⟩
  | .local _ .vmem, ⟨9, _⟩ => ⟨S128x7168, .fp8e4m3⟩
  | .local _ .vmem, ⟨10, _⟩ => ⟨S1x1, .f32⟩
  | .local _ .vmem, ⟨11, _⟩ => ⟨S1x1, .f32⟩
  | _, _ => ⟨S1x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Oproj.Base.lean ====
/- The kernel body's branch conditions, the windows' current buffers and the region invariant, at a symbolic point.

   The grid has 14 points. The body's first conditional runs at point 0 (the activation's maximum and codes), its
   second at point 13 (the normalisation, its maximum and codes). Between the points the scratch keeps the columns of
   the residual sum that earlier points stored. -/
module

public import proofs.«01_k».proof.Proof.Gen.KernelIdeal.Frame
public import proofs.«01_k».proof.Proof.Gen.KernelIdeal.Skeleton
public import Idealize.ShloMosaic.Lib.VecWindow
public import Idealize.ShloMosaic.Lib.WritesUnit
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x7168 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8192 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x7168 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.Oproj.Reads.lean ====
/- How a load of a whole buffer, or of what stores of it left, reads. -/
module

public import proofs.«01_k».proof.Proof.Oproj.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-word buffer. -/
def z1 : S1.Idx := fun a => ⟨0, by revert a; decide⟩

/-- A one-word buffer has one index. -/
theorem idx_z1 (x : S1.Idx) : x = z1 := by
  funext a
  have ha : S1.size a = 1 := by revert a; decide
  exact Fin.ext (by have := (x a).isLt; show (x a).val = 0; omega)

section

variable {κ : Kind} {sp : Space} {s : Shape} {e : EltTy}

/-- A load of a whole buffer reads its contents. -/
theorem readAt_full_unread (m : Memref sig κ sp s e) (hm : m.IsWhole) (x : s.Idx → Elt F e) {off : Fin s.rank → ℕ}
    (inb : ∀ a, off a + s.size a ≤ s.size a) :
    m.view.readAt (Elt F) (Rect.unit off (no_index s.size) inb).toLoadRect (hm.unread x) = x := by
  rw [View.readAt_full, hm.read_unread]

/-- A load of the word of a one-word buffer. -/
theorem word_read (m : Memref sig κ sp S1 e) (hm : m.IsWhole) (x : S1.Idx → Elt F e) {off : Fin S1.rank → ℕ}
    (inb : ∀ a, off a + S1.size a ≤ S1.size a) (h : 0 < (Rect.unit (s := S1) off (no_index S1.size) inb).shape.numel) :
    m.view.readAt (Elt F) (Rect.unit off (no_index S1.size) inb).toLoadRect (hm.unread x) (Shape.Idx.first h) = x z1 :=
  (congrFun (readAt_full_unread m hm x inb) _).trans (congrArg x (idx_z1 _))

/-- One store into a whole buffer leaves its contents with the payload put there. -/
theorem read_put (m : Memref sig κ sp s e) (hm : m.IsWhole) (x : s.Idx → Elt F e) {off size : Fin s.rank → ℕ}
    (inb : ∀ a, off a + size a ≤ s.size a) (w : (Rect.unit off size inb).shape.Idx → Elt F e) :
    m.view.read (Elt F) (m.view.writes (Elt F) (hm.unread x) [⟨Rect.unit off size inb, w⟩])
      = VecWindow.put x off size w := by
  rw [View.read_writes_cons_put m.view _ inb w [] rfl, View.writes_nil, hm.read_unread]

/-- And a load of the whole buffer after it reads that. -/
theorem readAt_put (m : Memref sig κ sp s e) (hm : m.IsWhole) (x : s.Idx → Elt F e) {off size : Fin s.rank → ℕ}
    (inb : ∀ a, off a + size a ≤ s.size a) (w : (Rect.unit off size inb).shape.Idx → Elt F e) {off' : Fin s.rank → ℕ}
    (inb' : ∀ a, off' a + s.size a ≤ s.size a) :
    m.view.readAt (Elt F) (Rect.unit off' (no_index s.size) inb').toLoadRect
        (m.view.writes (Elt F) (hm.unread x) [⟨Rect.unit off size inb, w⟩])
      = VecWindow.put x off size w := by
  rw [View.readAt_full, read_put]

/-- A store of a whole buffer leaves the payload. -/
theorem read_full (m : Memref sig κ sp s e) (f : m.view.ty.Contents (Elt F)) {off : Fin s.rank → ℕ}
    (inb : ∀ a, off a + s.size a ≤ s.size a) (w : s.Idx → Elt F e) (L : List (View.Piece (Elt F) s e)) :
    m.view.read (Elt F) (m.view.writes (Elt F) f (⟨Rect.unit off (no_index s.size) inb, w⟩ :: L)) = w :=
  View.read_writes_full m.view f inb w L

/-- And a load of the whole buffer after it reads the payload. -/
theorem readAt_full (m : Memref sig κ sp s e) (f : m.view.ty.Contents (Elt F)) {off off' : Fin s.rank → ℕ}
    (inb : ∀ a, off a + s.size a ≤ s.size a) (inb' : ∀ a, off' a + s.size a ≤ s.size a) (w : s.Idx → Elt F e)
    (L : List (View.Piece (Elt F) s e)) :
    m.view.readAt (Elt F) (Rect.unit off' (no_index s.size) inb').toLoadRect
        (m.view.writes (Elt F) f (⟨Rect.unit off (no_index s.size) inb, w⟩ :: L)) = w :=
  View.readAt_writes_full m.view f inb' inb w L

/-- The same for a load stated over the stores alone. -/
theorem readCov_full (m : Memref sig κ sp s e) {off off' : Fin s.rank → ℕ}
    (inb : ∀ a, off a + s.size a ≤ s.size a) (inb' : ∀ a, off' a + s.size a ≤ s.size a) (w : s.Idx → Elt F e)
    (L : List (View.Piece (Elt F) s e)) :
    m.view.readCov (⟨Rect.unit off (no_index s.size) inb, w⟩ :: L) (Rect.unit off' (no_index s.size) inb').toLoadRect = w :=
  View.readCov_full m.view inb' inb w L

end

/-- The payload stored into the scratch is the one stored into the result's block. -/
theorem k0_pay5_eq (v0 : Elt F .f32) (v4 : Vec F S128x8192 .fp8e4m3) (v6 : Vec F S8192x512 .fp8e4m3) (v10 : Vec F S1x512 .f32) (v14 : Vec F S128x512 .bf16) :
    k0_pay5 v0 v4 v6 v10 v14 = k0_pay4 v0 v4 v6 v10 v14 := by
  unfold k0_pay5
  exact shapeCast_self _ _

end Cert.KernelIdeal.Hand

end
-- ==== Proof.Oproj.Data.lean ====
/- What every window's buffer and the scratch hold, point by point (the proof data), in the payloads of the blocks.

   The residual sum `RO` is the array whose 512 columns from column `512 * t` are what point `t` stores; before point `t` the
   scratch agrees with it on the columns below `512 * t`. -/
module

public import proofs.«01_k».proof.Proof.Oproj.Reads

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks that do not move -/

/-- The activation's scale, as a one-word array. -/
def XS (c : Dev nD) : Vec F S1 .f32 := iblk m c 0 t0_0
/-- The normalised array's scale. -/
def YS (c : Dev nD) : Vec F S1 .f32 := iblk m c 1 t0_0
/-- The activation. -/
def XA (c : Dev nD) : Vec F S128x8192 .bf16 := iblk m c 2 t0_0
/-- The norm's gain. -/
def GA (c : Dev nD) : Vec F S1x7168 .bf16 := iblk m c 6 t0_0

theorem iblk_0 (c : Dev nD) (t : Fin cfg0.N) : iblk m c 0 t = XS m c := rfl
theorem iblk_1 (c : Dev nD) (t : Fin cfg0.N) : iblk m c 1 t = YS m c := rfl
theorem iblk_2 (c : Dev nD) (t : Fin cfg0.N) : iblk m c 2 t = XA m c := rfl
theorem iblk_6 (c : Dev nD) (t : Fin cfg0.N) : iblk m c 6 t = GA m c := rfl

/-! ## What the points store -/

/-- The activation's codes. -/
def XC (c : Dev nD) : Vec F S128x8192 .fp8e4m3 := k0_pay3 (XS m c z1) (XA m c)
/-- The 512 columns of the residual sum that point `t` stores. -/
def blk7 (c : Dev nD) (t : Fin cfg0.N) : Vec F S128x512 .bf16 :=
  k0_pay4 (XS m c z1) (XC m c) (iblk m c 3 t) (iblk m c 4 t) (iblk m c 5 t)

/-- The point whose columns hold column `n`. -/
def colPt (n : ℕ) (h : n < 7168) : Fin cfg0.N := ⟨n / 512, by rw [show cfg0.N = 14 from N_0]; omega⟩
theorem col_lt (i : S128x7168.Idx) : (i 1).val < 7168 := (i 1).isLt
theorem row_lt (i : S128x7168.Idx) : (i 0).val < 128 := (i 0).isLt

/-- Entry `i` lies in the columns of its point. -/
theorem col_mem (i : S128x7168.Idx) (a : Fin S128x7168.rank) :
    (![0, 512 * ((i 1).val / 512)] : Fin S128x7168.rank → ℕ) a ≤ (i a).val
      ∧ (i a).val < (![0, 512 * ((i 1).val / 512)] : Fin S128x7168.rank → ℕ) a + S128x512.size a := by
  have h0 := row_lt i
  have h1 := col_lt i
  have e1 := Nat.div_add_mod (i 1).val 512
  have e2 := Nat.mod_lt (i 1).val (show 0 < 512 by omega)
  match a with
  | ⟨0, _⟩ => exact ⟨Nat.zero_le _, by show (i 0).val < 0 + 128; omega⟩
  | ⟨1, _⟩ => exact ⟨by show 512 * ((i 1).val / 512) ≤ (i 1).val; omega, by show (i 1).val < 512 * ((i 1).val / 512) + 512; omega⟩

/-- The residual sum: every point's columns side by side. -/
def RO (c : Dev nD) : Vec F S128x7168 .bf16 := fun i =>
  blk7 m c (colPt (i 1).val (col_lt i))
    (Rect.unitLocal (s := S128x7168) (off := ![0, 512 * ((i 1).val / 512)]) (size := S128x512.size) i (col_mem i))

/-- Entry `i` of the residual sum is entry `j` of point `t`'s columns, wherever `i` is `j` moved `512 * t` columns. -/
theorem RO_at (c : Dev nD) (t : Fin cfg0.N) (i : S128x7168.Idx) (j : S128x512.Idx) (h0 : (i 0).val = (j 0).val)
    (h1 : (i 1).val = 512 * t.val + (j 1).val) : RO m c i = blk7 m c t j := by
  have hj : (j 1).val < 512 := (j 1).isLt
  have hd : (i 1).val / 512 = t.val := by omega
  have ht : colPt (i 1).val (col_lt i) = t := Fin.ext hd
  unfold RO
  rw [ht]
  congr 1
  funext a
  refine Fin.ext ?_
  rw [Rect.unitLocal_val]
  match a with
  | ⟨0, _⟩ => show (i 0).val - 0 = (j 0).val; omega
  | ⟨1, _⟩ => show (i 1).val - 512 * ((i 1).val / 512) = (j 1).val; omega

/-- The coordinate of point `t`. -/
theorem coord_val (t : Fin cfg0.N) : (grid0.coords t 0).val = t.val := by
  have ht : t.val < 14 := Nat.lt_of_lt_of_eq t.isLt N_0
  have e0 : (grid0.coords t 0).val = t.val / 1 % 14 := Pipeline.Grid.coords_val t 0 (by decide) rfl
  omega

/-- `S` is the residual sum on the columns below `n`. -/
def Agree (c : Dev nD) (S : Vec F S128x7168 .bf16) (n : ℕ) : Prop := ∀ i : S128x7168.Idx, (i 1).val < n → S i = RO m c i

theorem agree_zero (c : Dev nD) (S : Vec F S128x7168 .bf16) : Agree m c S 0 := fun _ h => absurd h (Nat.not_lt_zero _)

/-- Agreement on every column is equality. -/
theorem agree_all (c : Dev nD) (S : Vec F S128x7168 .bf16) (n : ℕ) (hn : 7168 ≤ n) (h : Agree m c S n) : S = RO m c :=
  funext fun i => h i (lt_of_lt_of_le (col_lt i) hn)

/-- The store of point `t` extends the agreement by its columns. -/
theorem agree_put (c : Dev nD) (t : Fin cfg0.N) (S : Vec F S128x7168 .bf16) (h : Agree m c S (512 * t.val)) :
    Agree m c (VecWindow.put S (k0_off1 (grid0.coords t)) S128x512.size (blk7 m c t)) (512 * (t.val + 1)) := by
  intro i hi
  have ho : k0_off1 (grid0.coords t) = ![0, 512 * t.val] := by rw [k0_off1_eq, coord_val]
  rw [ho]
  unfold VecWindow.put
  split
  · rename_i hm
    have h0 := row_lt i
    have h1 : 512 * t.val ≤ (i 1).val := (hm 1).1
    refine (RO_at m c t i _ ?_ ?_).symm
    · rw [Rect.unitLocal_val]; rfl
    · rw [Rect.unitLocal_val]
      show (i 1).val = 512 * t.val + ((i 1).val - 512 * t.val)
      omega
  · rename_i hm
    refine h i ?_
    by_contra hc
    refine hm fun a => ?_
    have h0 := row_lt i
    match a with
    | ⟨0, _⟩ => exact ⟨Nat.zero_le _, by show (i 0).val < 0 + 128; omega⟩
    | ⟨1, _⟩ => exact ⟨by show 512 * t.val ≤ (i 1).val; omega, by show (i 1).val < 512 * t.val + 512; omega⟩

/-! ## The proof data -/

/-- The scratch at contents that are the residual sum on the columns below `n`. -/
def scAt (c : Dev nD) (n : ℕ) : sProp 𝕄 :=
  iprop(∃ S, owns (c : Thread nD τ) scM0_0 fullShare S ∗ ⌜Agree m c S n⌝)

/-- The arrays as the region finds them; after point `t` each input's buffer at its block, each output's at what the
    stores leave; between the points the scratch at the residual sum's columns so far; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk7 m c t
    | ⟨8, _⟩ => XC m c
    | ⟨9, _⟩ => k0_pay8 (RO m c) (GA m c) (YS m c z1)
    | ⟨10, _⟩ => fun _ => k0_pay2 (XA m c)
    | ⟨11, _⟩ => fun _ => k0_pay7 (RO m c) (GA m c)
  Φ t := iprop(scAt m c (512 * t.val) ∗ (∃ r, prngReg c r))
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = blk7 m c t := by dsimp only [dats]
theorem after0_8 (c : Dev nD) (t : Fin cfg0.N) : (dats m 0 c).after 8 t = XC m c := by dsimp only [dats]
theorem after0_9 (c : Dev nD) (t : Fin cfg0.N) : (dats m 0 c).after 9 t = k0_pay8 (RO m c) (GA m c) (YS m c z1) := by dsimp only [dats]
theorem after0_10 (c : Dev nD) (t : Fin cfg0.N) : (dats m 0 c).after 10 t = fun _ => k0_pay2 (XA m c) := by dsimp only [dats]
theorem after0_11 (c : Dev nD) (t : Fin cfg0.N) : (dats m 0 c).after 11 t = fun _ => k0_pay7 (RO m c) (GA m c) := by dsimp only [dats]

/-! Each input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## Where an output is idle -/

theorem live0_8 (t : Fin cfg0.N) (h : cond0_0 (grid0.coords t)) : cfg0.idle 8 (grid0.coords t) = false := by
  show (!(k0_cond1 (grid0.coords t) == 1#1)) = false
  rw [show k0_cond1 (grid0.coords t) = 1#1 from h]; rfl
theorem idle0_8 (t : Fin cfg0.N) (h : ¬cond0_0 (grid0.coords t)) : cfg0.idle 8 (grid0.coords t) = true := by
  show (!(k0_cond1 (grid0.coords t) == 1#1)) = true
  rw [beq_false_of_ne h]; rfl
theorem live0_10 (t : Fin cfg0.N) (h : cond0_0 (grid0.coords t)) : cfg0.idle 10 (grid0.coords t) = false := by
  show (!(k0_cond1 (grid0.coords t) == 1#1)) = false
  rw [show k0_cond1 (grid0.coords t) = 1#1 from h]; rfl
theorem idle0_10 (t : Fin cfg0.N) (h : ¬cond0_0 (grid0.coords t)) : cfg0.idle 10 (grid0.coords t) = true := by
  show (!(k0_cond1 (grid0.coords t) == 1#1)) = true
  rw [beq_false_of_ne h]; rfl
theorem live0_9 (t : Fin cfg0.N) (h : cond0_1 (grid0.coords t)) : cfg0.idle 9 (grid0.coords t) = false := by
  show (!(k0_cond2 (grid0.coords t) == 1#1)) = false
  rw [show k0_cond2 (grid0.coords t) = 1#1 from h]; rfl
theorem idle0_9 (t : Fin cfg0.N) (h : ¬cond0_1 (grid0.coords t)) : cfg0.idle 9 (grid0.coords t) = true := by
  show (!(k0_cond2 (grid0.coords t) == 1#1)) = true
  rw [beq_false_of_ne h]; rfl
theorem live0_11 (t : Fin cfg0.N) (h : cond0_1 (grid0.coords t)) : cfg0.idle 11 (grid0.coords t) = false := by
  show (!(k0_cond2 (grid0.coords t) == 1#1)) = false
  rw [show k0_cond2 (grid0.coords t) = 1#1 from h]; rfl
theorem idle0_11 (t : Fin cfg0.N) (h : ¬cond0_1 (grid0.coords t)) : cfg0.idle 11 (grid0.coords t) = true := by
  show (!(k0_cond2 (grid0.coords t) == 1#1)) = true
  rw [beq_false_of_ne h]; rfl

/-- An output that only the first point stores, and only the last writes back, holds what the first stored at every later point. -/
theorem before_first {c : Dev nD} (dat : Dat τ (Elt F) Unit ℕ (UR sig nD τ) ℕ cfg0 c) (w : Fin cfg0.W) (hw : (cfg0.win w).isOut = true)
    (hclip : ∀ (i : cfg0.grid.Coords) a, (cfg0.win w).clip i a = none) (X : (cfg0.win w).block.Idx → Elt F (cfg0.win w).elt)
    (hafter : ∀ t, dat.after w t = X) (hfl : ∀ t : Fin cfg0.N, t.val % 14 ≠ 13 → (cfg0.win w).flush t = false)
    (hlive : ∀ t : Fin cfg0.N, t.val = 0 → cfg0.idle w (cfg0.grid.coords t) = false) (d) :
    ∀ (n : ℕ) (t : Fin cfg0.N), t.val = n + 1 → dat.before w t d = X := by
  have hN : cfg0.N = 14 := N_0
  intro n
  induction n with
  | zero =>
    intro t ht
    have hlt := t.isLt
    rw [dat.before_of_pos w t (by omega) ((cfg0.win w).fetch_out hw t), hfl _ (by show (t.val - 1) % 14 ≠ 13; omega), if_neg Bool.false_ne_true]
    unfold Dat.left
    rw [hlive _ (by show t.val - 1 = 0; omega)]
    show dat.kept w _ d = X
    unfold Dat.kept
    rw [Pipeline.fill_of_clip_none w _ (hclip _) d (dat.after w _), Pipeline.Window.fill_cut, hafter]
  | succ n ih =>
    intro t ht
    have hlt := t.isLt
    rw [dat.before_of_pos w t (by omega) ((cfg0.win w).fetch_out hw t), hfl _ (by show (t.val - 1) % 14 ≠ 13; omega), if_neg Bool.false_ne_true]
    unfold Dat.left
    split
    · exact ih _ (by show t.val - 1 = n + 1; omega)
    · show dat.kept w _ d = X
      unfold Dat.kept
      rw [Pipeline.fill_of_clip_none w _ (hclip _) d (dat.after w _), Pipeline.Window.fill_cut, hafter]

/-- A window that only the last point writes back is not written back at another. -/
theorem flush_false {w : Fin cfg0.W} (h : ∀ t : Fin cfg0.N, (cfg0.win w).flush t = true ↔ t.val % 14 = 13) (t : Fin cfg0.N) (ht : t.val % 14 ≠ 13) :
    (cfg0.win w).flush t = false := by
  cases hf : (cfg0.win w).flush t
  · rfl
  · exact absurd ((h t).mp hf) ht

/-- After the first point the codes' buffer holds the codes. -/
theorem before0_8 (c : Dev nD) (t : Fin cfg0.N) (ht : t.val ≠ 0) (d) : (dats m 0 c).before 8 t d = XC m c :=
  before_first (dats m 0 c) 8 rfl (fun _ _ => rfl) (XC m c) (after0_8 m c) (flush_false flush0_8)
    (fun t h => live0_8 t ((hcond0_0 t).mpr (by omega))) d (t.val - 1) t (by omega)
/-- And the maximum's buffer the maximum. -/
theorem before0_10 (c : Dev nD) (t : Fin cfg0.N) (ht : t.val ≠ 0) (d) : (dats m 0 c).before 10 t d = fun _ => k0_pay2 (XA m c) :=
  before_first (dats m 0 c) 10 rfl (fun _ _ => rfl) (fun _ => k0_pay2 (XA m c)) (after0_10 m c) (flush_false flush0_10)
    (fun t h => live0_10 t ((hcond0_0 t).mpr (by omega))) d (t.val - 1) t (by omega)

end Cert.KernelIdeal.Hand

end
-- ==== Proof.Oproj.RunA.lean ====
/- The body at the first point: it stores the activation's maximum and codes, the point's columns of the residual sum, and the same columns into the scratch. -/
module

public import proofs.«01_k».proof.Proof.Oproj.Reads

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it stores the activation's maximum and codes, the point's columns of the residual sum, and the same columns into the scratch. -/
theorem runA (c : Dev nD) (i : grid0.Coords) (arg1 : Memref sig .tc .smem S1 .f32) (harg1 : arg1.IsWhole) (arg2 : Memref sig .tc .smem S1 .f32) (harg2 : arg2.IsWhole) (arg3 : Memref sig .tc .vmem S128x8192 .bf16) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S128x512 .bf16) (harg6 : arg6.IsWhole)
    (arg7 : Memref sig .tc .vmem S1x7168 .bf16) (harg7 : arg7.IsWhole) (arg8 : Memref sig .tc .vmem S128x512 .bf16) (harg8 : arg8.IsWhole) (arg9 : Memref sig .tc .vmem S128x8192 .fp8e4m3) (harg9 : arg9.IsWhole) (arg10 : Memref sig .tc .vmem S128x7168 .fp8e4m3) (harg10 : arg10.IsWhole) (arg11 : Memref sig .tc .smem S1 .f32) (harg11 : arg11.IsWhole) (arg12 : Memref sig .tc .smem S1 .f32) (harg12 : arg12.IsWhole) (arg13 : Memref sig .tc .vmem S128x7168 .bf16) (harg13 : arg13.IsWhole)
    (hc0 : cond0_0 i) (hc1 : ¬cond0_1 i)
    (x0 : Vec F S1 .f32) (x1 : Vec F S1 .f32) (x2 : Vec F S128x8192 .bf16) (x3 : Vec F S8192x512 .fp8e4m3) (x4 : Vec F S1x512 .f32) (x5 : Vec F S128x512 .bf16) (x6 : Vec F S1x7168 .bf16) (x8 : Vec F S128x8192 .fp8e4m3) (S : Vec F S128x7168 .bf16) (E : Set ℕ) (K : PUnit → sProp 𝕄) :
    iprop(owns (c : Thread nD τ) arg1 fullShare x0
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg8 fullShare d)
        ∗ (∃ d, owns (c : Thread nD τ) arg9 fullShare d)
        ∗ (∃ d, owns (c : Thread nD τ) arg11 fullShare d)
        ∗ owns (c : Thread nD τ) arg13 fullShare S
        ∗ (iprop(owns (c : Thread nD τ) arg1 fullShare x0
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg8 fullShare (k0_pay4 (x0 z1) (k0_pay3 (x0 z1) x2) x3 x4 x5)
          ∗ owns (c : Thread nD τ) arg9 fullShare (k0_pay3 (x0 z1) x2)
          ∗ owns (c : Thread nD τ) arg11 fullShare (fun _ => k0_pay2 x2)
          ∗ owns (c : Thread nD τ) arg13 fullShare (VecWindow.put S (k0_off1 i) S128x512.size (k0_pay4 (x0 z1) (k0_pay3 (x0 z1) x2) x3 x4 x5))) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12 arg13 harg13) K := by
  simp only [cc0_oproj_eq_skeleton]; unfold cc0_oproj_skel
  unfold owns
  iintro ⟨⟨%f1, %hf1, H1⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d11, %f11, -, H11⟩, ⟨%f13, %hf13, H13⟩, Hk⟩
  obtain rfl := harg1.eq_unread hf1; obtain rfl := harg3.eq_unread hf3; obtain rfl := harg4.eq_unread hf4; obtain rfl := harg5.eq_unread hf5; obtain rfl := harg6.eq_unread hf6; obtain rfl := harg13.eq_unread hf13
  sl_exec (disch := first | sl_exact hc0 | sl_exact hc1)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; swap; · iexact H8
    ipureintro
    sl_unfold_words
    simp only [↓ word_read, k0_pay5_eq, readAt_full_unread, read_full, readCov_full, readAt_full, read_put, readAt_put]
  isplitl [H9]
  · iexists _; isplitr; swap; · iexact H9
    ipureintro
    sl_unfold_words
    simp only [↓ word_read, k0_pay5_eq, readAt_full_unread, read_full, readCov_full, readAt_full, read_put, readAt_put]
  isplitl [H11]
  · iexists _; isplitr; swap; · iexact H11
    ipureintro
    sl_unfold_words
    simp only [↓ word_read, k0_pay5_eq, readAt_full_unread, read_full, readCov_full, readAt_full, read_put, readAt_put]
    rfl
  iexists _; isplitr; swap; · iexact H13
  ipureintro
  sl_unfold_words
  simp only [↓ word_read, k0_pay5_eq, readAt_full_unread, read_full, readCov_full, readAt_full, read_put, readAt_put]
  exact read_put arg13 harg13 S _ _

end Cert.KernelIdeal.Hand

end
-- ==== Proof.Oproj.RunB.lean ====
/- The body at a point that is neither first nor last: from the activation's codes it stores the point's columns of the residual sum, and the same columns into the scratch. -/
module

public import proofs.«01_k».proof.Proof.Oproj.Reads

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point that is neither first nor last: from the activation's codes it stores the point's columns of the residual sum, and the same columns into the scratch. -/
theorem runB (c : Dev nD) (i : grid0.Coords) (arg1 : Memref sig .tc .smem S1 .f32) (harg1 : arg1.IsWhole) (arg2 : Memref sig .tc .smem S1 .f32) (harg2 : arg2.IsWhole) (arg3 : Memref sig .tc .vmem S128x8192 .bf16) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S128x512 .bf16) (harg6 : arg6.IsWhole)
    (arg7 : Memref sig .tc .vmem S1x7168 .bf16) (harg7 : arg7.IsWhole) (arg8 : Memref sig .tc .vmem S128x512 .bf16) (harg8 : arg8.IsWhole) (arg9 : Memref sig .tc .vmem S128x8192 .fp8e4m3) (harg9 : arg9.IsWhole) (arg10 : Memref sig .tc .vmem S128x7168 .fp8e4m3) (harg10 : arg10.IsWhole) (arg11 : Memref sig .tc .smem S1 .f32) (harg11 : arg11.IsWhole) (arg12 : Memref sig .tc .smem S1 .f32) (harg12 : arg12.IsWhole) (arg13 : Memref sig .tc .vmem S128x7168 .bf16) (harg13 : arg13.IsWhole)
    (hc0 : ¬cond0_0 i) (hc1 : ¬cond0_1 i)
    (x0 : Vec F S1 .f32) (x1 : Vec F S1 .f32) (x2 : Vec F S128x8192 .bf16) (x3 : Vec F S8192x512 .fp8e4m3) (x4 : Vec F S1x512 .f32) (x5 : Vec F S128x512 .bf16) (x6 : Vec F S1x7168 .bf16) (x8 : Vec F S128x8192 .fp8e4m3) (S : Vec F S128x7168 .bf16) (E : Set ℕ) (K : PUnit → sProp 𝕄) :
    iprop(owns (c : Thread nD τ) arg1 fullShare x0
        ∗ owns (c : Thread nD τ) arg4 fullShare x3
        ∗ owns (c : Thread nD τ) arg5 fullShare x4
        ∗ owns (c : Thread nD τ) arg6 fullShare x5
        ∗ (∃ d, owns (c : Thread nD τ) arg8 fullShare d)
        ∗ owns (c : Thread nD τ) arg9 fullShare x8
        ∗ owns (c : Thread nD τ) arg13 fullShare S
        ∗ (iprop(owns (c : Thread nD τ) arg1 fullShare x0
          ∗ owns (c : Thread nD τ) arg4 fullShare x3
          ∗ owns (c : Thread nD τ) arg5 fullShare x4
          ∗ owns (c : Thread nD τ) arg6 fullShare x5
          ∗ owns (c : Thread nD τ) arg8 fullShare (k0_pay4 (x0 z1) x8 x3 x4 x5)
          ∗ owns (c : Thread nD τ) arg9 fullShare x8
          ∗ owns (c : Thread nD τ) arg13 fullShare (VecWindow.put S (k0_off1 i) S128x512.size (k0_pay4 (x0 z1) x8 x3 x4 x5))) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12 arg13 harg13) K := by
  simp only [cc0_oproj_eq_skeleton]; unfold cc0_oproj_skel
  unfold owns
  iintro ⟨⟨%f1, %hf1, H1⟩, ⟨%f4, %hf4, H4⟩, ⟨%f5, %hf5, H5⟩, ⟨%f6, %hf6, H6⟩, ⟨%d8, %f8, -, H8⟩, ⟨%f9, %hf9, H9⟩, ⟨%f13, %hf13, H13⟩, Hk⟩
  obtain rfl := harg1.eq_unread hf1; obtain rfl := harg4.eq_unread hf4; obtain rfl := harg5.eq_unread hf5; obtain rfl := harg6.eq_unread hf6; obtain rfl := harg9.eq_unread hf9; obtain rfl := harg13.eq_unread hf13
  sl_exec (disch := first | sl_exact hc0 | sl_exact hc1)
  sl_step
  iapply Hk
  isplitl [H1]
  · iexists _; isplitr; · ipureintro; exact harg1.read_unread _
    iexact H1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr; swap; · iexact H8
    ipureintro
    sl_unfold_words
    simp only [↓ word_read, k0_pay5_eq, readAt_full_unread, read_full, readCov_full, readAt_full, read_put, readAt_put]
  isplitl [H9]
  · iexists _; isplitr; · ipureintro; exact harg9.read_unread _
    iexact H9
  iexists _; isplitr; swap; · iexact H13
  ipureintro
  sl_unfold_words
  simp only [↓ word_read, k0_pay5_eq, readAt_full_unread, read_full, readCov_full, readAt_full, read_put, readAt_put]
  exact read_put arg13 harg13 S _ _

end Cert.KernelIdeal.Hand

end
-- ==== Proof.Oproj.RunC.lean ====
/- The body at the last point: its columns as at the others, then, from the whole scratch, the normalised array's maximum and codes. -/
module

public import proofs.«01_k».proof.Proof.Oproj.Reads

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point: its columns as at the others, then, from the whole scratch, the normalised array's maximum and codes. -/
theorem runC (c : Dev nD) (i : grid0.Coords) (arg1 : Memref sig .tc .smem S1 .f32) (harg1 : arg1.IsWhole) (arg2 : Memref sig .tc .smem S1 .f32) (harg2 : arg2.IsWhole) (arg3 : Memref sig .tc .vmem S128x8192 .bf16) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S128x512 .bf16) (harg6 : arg6.IsWhole)
    (arg7 : Memref sig .tc .vmem S1x7168 .bf16) (harg7 : arg7.IsWhole) (arg8 : Memref sig .tc .vmem S128x512 .bf16) (harg8 : arg8.IsWhole) (arg9 : Memref sig .tc .vmem S128x8192 .fp8e4m3) (harg9 : arg9.IsWhole) (arg10 : Memref sig .tc .vmem S128x7168 .fp8e4m3) (harg10 : arg10.IsWhole) (arg11 : Memref sig .tc .smem S1 .f32) (harg11 : arg11.IsWhole) (arg12 : Memref sig .tc .smem S1 .f32) (harg12 : arg12.IsWhole) (arg13 : Memref sig .tc .vmem S128x7168 .bf16) (harg13 : arg13.IsWhole)
    (hc0 : ¬cond0_0 i) (hc1 : cond0_1 i)
    (x0 : Vec F S1 .f32) (x1 : Vec F S1 .f32) (x2 : Vec F S128x8192 .bf16) (x3 : Vec F S8192x512 .fp8e4m3) (x4 : Vec F S1x512 .f32) (x5 : Vec F S128x512 .bf16) (x6 : Vec F S1x7168 .bf16) (x8 : Vec F S128x8192 .fp8e4m3) (S : Vec F S128x7168 .bf16) (E : Set ℕ) (K : PUnit → sProp 𝕄) :
    iprop(owns (c : Thread nD τ) arg1 fullShare x0
        ∗ owns (c : Thread nD τ) arg2 fullShare x1
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ owns (c : Thread nD τ) arg9 fullShare x8
        ∗ (∃ d, owns (c : Thread nD τ) arg10 fullShare d)
        ∗ (∃ d, owns (c : Thread nD τ) arg12 fullShare d)
        ∗ owns (c : Thread nD τ) arg13 fullShare S
        ∗ (iprop(owns (c : Thread nD τ) arg1 fullShare x0
          ∗ owns (c : Thread nD τ) arg2 fullShare x1
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare (k0_pay4 (x0 z1) x8 x3 x4 x5)
          ∗ owns (c : Thread nD τ) arg9 fullShare x8
          ∗ owns (c : Thread nD τ) arg10 fullShare (k0_pay8 (VecWindow.put S (k0_off1 i) S128x512.size (k0_pay4 (x0 z1) x8 x3 x4 x5)) x6 (x1 z1))
          ∗ owns (c : Thread nD τ) arg12 fullShare (fun _ => k0_pay7 (VecWindow.put S (k0_off1 i) S128x512.size (k0_pay4 (x0 z1) x8 x3 x4 x5)) x6)
          ∗ owns (c : Thread nD τ) arg13 fullShare (VecWindow.put S (k0_off1 i) S128x512.size (k0_pay4 (x0 z1) x8 x3 x4 x5))) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11 arg12 harg12 arg13 harg13) K := by
  simp only [cc0_oproj_eq_skeleton]; unfold cc0_oproj_skel
  unfold owns
  iintro ⟨⟨%f1, %hf1, H1⟩, ⟨%f2, %hf2, H2⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d12, %f12, -, H12⟩, ⟨%f13, %hf13, H13⟩, Hk⟩
  obtain rfl := harg1.eq_unread hf1; obtain rfl := harg2.eq_unread hf2; obtain rfl := harg4.eq_unread hf4; obtain rfl := harg5.eq_unread hf5; obtain rfl := harg6.eq_unread hf6; obtain rfl := harg7.eq_unread hf7; obtain rfl := harg9.eq_unread hf9; obtain rfl := harg13.eq_unread hf13
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_words
    simp only [↓ word_read, k0_pay5_eq, readAt_full_unread, read_full, readCov_full, readAt_full, read_put, readAt_put]
  isplitl [H9]
  · iexists _; isplitr; · ipureintro; exact harg9.read_unread _
    iexact H9
  isplitl [H10]
  · iexists _; isplitr; swap; · iexact H10
    ipureintro
    sl_unfold_words
    simp only [↓ word_read, k0_pay5_eq, readAt_full_unread, read_full, readCov_full, readAt_full, read_put, readAt_put]
    exact congrArg (fun z => k0_pay8 z x6 (x1 z1))
      (readAt_put arg13 harg13 S (k0_off1_inb i) (k0_pay4 (x0 z1) x8 x3 x4 x5) inb_S128x7168_S128x7168_0_0)
  isplitl [H12]
  · iexists _; isplitr; swap; · iexact H12
    ipureintro
    sl_unfold_words
    simp only [↓ word_read, k0_pay5_eq, readAt_full_unread, read_full, readCov_full, readAt_full, read_put, readAt_put]
    exact congrArg (fun z => fun _ => k0_pay7 z x6)
      (readAt_put arg13 harg13 S (k0_off1_inb i) (k0_pay4 (x0 z1) x8 x3 x4 x5) inb_S128x7168_S128x7168_0_0)
  iexists _; isplitr; swap; · iexact H13
  ipureintro
  sl_unfold_words
  simp only [↓ word_read, k0_pay5_eq, readAt_full_unread, read_full, readCov_full, readAt_full, read_put, readAt_put]
  exact read_put arg13 harg13 S _ _

end Cert.KernelIdeal.Hand

end
-- ==== Proof.Oproj.Run.lean ====
/- The body's triple at every point, the launch, and the kernel's frame. -/
module

public import proofs.«01_k».proof.Proof.Oproj.Data
public import proofs.«01_k».proof.Proof.Oproj.RunA
public import proofs.«01_k».proof.Proof.Oproj.RunB
public import proofs.«01_k».proof.Proof.Oproj.RunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-! An input's buffer is handed back at its block, the residual sum's at the point's columns; an output's at its
    contents where the body stores it or the point writes it back, else as it was found. -/

theorem leaves0_0 (c : Dev nD) (t : Fin cfg0.N) : (dats m 0 c).leavesExact 0 t = owns (c : Thread nD τ) (ms0_0 t) fullShare (iblk m c 0 t) := by
  rw [← after0_0 m c t]
theorem leaves0_1 (c : Dev nD) (t : Fin cfg0.N) : (dats m 0 c).leavesExact 1 t = owns (c : Thread nD τ) (ms0_1 t) fullShare (iblk m c 1 t) := by
  rw [← after0_1 m c t]
theorem leaves0_2 (c : Dev nD) (t : Fin cfg0.N) : (dats m 0 c).leavesExact 2 t = owns (c : Thread nD τ) (ms0_2 t) fullShare (iblk m c 2 t) := by
  rw [← after0_2 m c t]
theorem leaves0_3 (c : Dev nD) (t : Fin cfg0.N) : (dats m 0 c).leavesExact 3 t = owns (c : Thread nD τ) (ms0_3 t) fullShare (iblk m c 3 t) := by
  rw [← after0_3 m c t]
theorem leaves0_4 (c : Dev nD) (t : Fin cfg0.N) : (dats m 0 c).leavesExact 4 t = owns (c : Thread nD τ) (ms0_4 t) fullShare (iblk m c 4 t) := by
  rw [← after0_4 m c t]
theorem leaves0_5 (c : Dev nD) (t : Fin cfg0.N) : (dats m 0 c).leavesExact 5 t = owns (c : Thread nD τ) (ms0_5 t) fullShare (iblk m c 5 t) := by
  rw [← after0_5 m c t]
theorem leaves0_6 (c : Dev nD) (t : Fin cfg0.N) : (dats m 0 c).leavesExact 6 t = owns (c : Thread nD τ) (ms0_6 t) fullShare (iblk m c 6 t) := by
  rw [← after0_6 m c t]
theorem leaves0_7 (c : Dev nD) (t : Fin cfg0.N) : (dats m 0 c).leavesExact 7 t = owns (c : Thread nD τ) (ms0_7 t) fullShare (blk7 m c t) := by
  rw [← after0_7 m c t]
theorem leaves0_8_live (c : Dev nD) (t : Fin cfg0.N) (h : cond0_0 (grid0.coords t)) :
    (dats m 0 c).leavesExact 8 t = owns (c : Thread nD τ) (ms0_8 t) fullShare (XC m c) := by
  unfold Dat.leavesExact; rw [live0_8 t h, after0_8]
theorem leaves0_8_idle (c : Dev nD) (t : Fin cfg0.N) (h : ¬cond0_0 (grid0.coords t)) (hf : t.val % 14 ≠ 13) :
    (dats m 0 c).leavesExact 8 t = iprop(∃ d, owns (c : Thread nD τ) (ms0_8 t) fullShare ((dats m 0 c).before 8 t d)) :=
  (dats m 0 c).leavesExact_idle 8 t (idle0_8 t h) (flush_false flush0_8 t hf)
theorem leaves0_8_last (c : Dev nD) (t : Fin cfg0.N) (h : ¬cond0_0 (grid0.coords t)) (hf : t.val % 14 = 13) :
    (dats m 0 c).leavesExact 8 t = owns (c : Thread nD τ) (ms0_8 t) fullShare (XC m c) := by
  unfold Dat.leavesExact; rw [idle0_8 t h, (flush0_8 t).mpr hf, after0_8]
theorem leaves0_10_live (c : Dev nD) (t : Fin cfg0.N) (h : cond0_0 (grid0.coords t)) :
    (dats m 0 c).leavesExact 10 t = owns (c : Thread nD τ) (ms0_10 t) fullShare (fun _ => k0_pay2 (XA m c)) := by
  unfold Dat.leavesExact; rw [live0_10 t h, after0_10]; rfl
theorem leaves0_10_idle (c : Dev nD) (t : Fin cfg0.N) (h : ¬cond0_0 (grid0.coords t)) (hf : t.val % 14 ≠ 13) :
    (dats m 0 c).leavesExact 10 t = iprop(∃ d, owns (c : Thread nD τ) (ms0_10 t) fullShare ((dats m 0 c).before 10 t d)) :=
  (dats m 0 c).leavesExact_idle 10 t (idle0_10 t h) (flush_false flush0_10 t hf)
theorem leaves0_10_last (c : Dev nD) (t : Fin cfg0.N) (h : ¬cond0_0 (grid0.coords t)) (hf : t.val % 14 = 13) :
    (dats m 0 c).leavesExact 10 t = owns (c : Thread nD τ) (ms0_10 t) fullShare (fun _ => k0_pay2 (XA m c)) := by
  unfold Dat.leavesExact; rw [idle0_10 t h, (flush0_10 t).mpr hf, after0_10]; rfl
theorem leaves0_9_live (c : Dev nD) (t : Fin cfg0.N) (h : cond0_1 (grid0.coords t)) :
    (dats m 0 c).leavesExact 9 t = owns (c : Thread nD τ) (ms0_9 t) fullShare (k0_pay8 (RO m c) (GA m c) (YS m c z1)) := by
  unfold Dat.leavesExact; rw [live0_9 t h, after0_9]
theorem leaves0_9_idle (c : Dev nD) (t : Fin cfg0.N) (h : ¬cond0_1 (grid0.coords t)) (hf : t.val % 14 ≠ 13) :
    (dats m 0 c).leavesExact 9 t = iprop(∃ d, owns (c : Thread nD τ) (ms0_9 t) fullShare ((dats m 0 c).before 9 t d)) :=
  (dats m 0 c).leavesExact_idle 9 t (idle0_9 t h) (flush_false flush0_9 t hf)
theorem leaves0_11_live (c : Dev nD) (t : Fin cfg0.N) (h : cond0_1 (grid0.coords t)) :
    (dats m 0 c).leavesExact 11 t = owns (c : Thread nD τ) (ms0_11 t) fullShare (fun _ => k0_pay7 (RO m c) (GA m c)) := by
  unfold Dat.leavesExact; rw [live0_11 t h, after0_11]; rfl
theorem leaves0_11_idle (c : Dev nD) (t : Fin cfg0.N) (h : ¬cond0_1 (grid0.coords t)) (hf : t.val % 14 ≠ 13) :
    (dats m 0 c).leavesExact 11 t = iprop(∃ d, owns (c : Thread nD τ) (ms0_11 t) fullShare ((dats m 0 c).before 11 t d)) :=
  (dats m 0 c).leavesExact_idle 11 t (idle0_11 t h) (flush_false flush0_11 t hf)

theorem Phi_cast (c : Dev nD) (t : Fin cfg0.N) :
    (dats m 0 c).Φ t.castSucc = iprop(scAt m c (512 * t.val) ∗ (∃ r, prngReg c r)) := rfl
theorem Phi_succ (c : Dev nD) (t : Fin cfg0.N) :
    (dats m 0 c).Φ t.succ = iprop(scAt m c (512 * (t.val + 1)) ∗ (∃ r, prngReg c r)) := rfl

set_option maxHeartbeats 3600000 in
/-- The body at any point: which of its conditionals run is arithmetic of the point; the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, Phi_cast, Phi_succ,
    leaves0_0, leaves0_1, leaves0_2, leaves0_3, leaves0_4, leaves0_5, leaves0_6, leaves0_7]
  rw [show (dats m 0 c).owesAt () t.succ = (dats m 0 c).owesAt () t.castSucc from rfl]
  unfold scAt
  have hN : t.val < 14 := lt_of_lt_of_eq t.isLt (show cfg0.N = 14 from N_0)
  by_cases h0 : t.val % 14 = 0
  · have h1 : t.val % 14 ≠ 13 := by omega
    have hc0 := (hcond0_0 t).mpr h0
    have hc1 : ¬cond0_1 (grid0.coords t) := fun h => h1 ((hcond0_1 t).mp h)
    rw [leaves0_8_live m c t hc0, leaves0_10_live m c t hc0, leaves0_9_idle m c t hc1 h1, leaves0_11_idle m c t hc1 h1]
    iintro ⟨⟨⟨%S, HS, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (XC m c) S Set.univ _)
    isplitl [H0]; · iexact H0
    isplitl [H2]; · iexact H2
    isplitl [H3]; · iexact H3
    isplitl [H4]; · iexact H4
    isplitl [H5]; · iexact H5
    isplitl [H7]; · iexists _; iexact H7
    isplitl [H8]; · iexists _; iexact H8
    isplitl [H10]; · iexists _; iexact H10
    isplitl [HS]; · iexact HS
    iintro ⟨H0, H2, H3, H4, H5, H7, H8, H10, HS⟩
    isplitl [HS Hg]
    · isplitl [HS]
      · iexists _; isplitl [HS]; · iexact HS
        ipureintro; exact agree_put m c t S hS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [H10]; · iexact H10
    iexists d11; iexact H11
  · by_cases h1 : t.val % 14 = 13
    · -- the last point
      have hc0 : ¬cond0_0 (grid0.coords t) := fun h => h0 ((hcond0_0 t).mp h)
      have hc1 := (hcond0_1 t).mpr h1
      rw [leaves0_8_last m c t hc0 h1, leaves0_10_last m c t hc0 h1, leaves0_9_live m c t hc1, leaves0_11_live m c t hc1]
      simp only [before0_8 m c t (by omega), before0_10 m c t (by omega)]
      iintro ⟨⟨⟨%S, HS, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      have hR : VecWindow.put S (k0_off1 (grid0.coords t)) S128x512.size (blk7 m c t) = RO m c :=
        agree_all m c _ _ (by omega) (agree_put m c t S hS)
      iapply (runC c (grid0.coords t) _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (XC m c) S Set.univ _)
      isplitl [H0]; · iexact H0
      isplitl [H1]; · iexact H1
      isplitl [H3]; · iexact H3
      isplitl [H4]; · iexact H4
      isplitl [H5]; · iexact H5
      isplitl [H6]; · iexact H6
      isplitl [H7]; · iexists _; iexact H7
      isplitl [H8]; · iexact H8
      isplitl [H9]; · iexists _; iexact H9
      isplitl [H11]; · iexists _; iexact H11
      isplitl [HS]; · iexact HS
      iintro ⟨H0, H1, H3, H4, H5, H6, H7, H8, H9, H11, HS⟩
      isplitl [HS Hg]
      · isplitl [HS]
        · iexists _; isplitl [HS]; · iexact HS
          ipureintro; exact agree_put m c t S hS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · rw [← hR]; iexact H9
      isplitl [H10]; · iexact H10
      rw [← hR]; iexact H11
    · -- a point between
      have hc0 : ¬cond0_0 (grid0.coords t) := fun h => h0 ((hcond0_0 t).mp h)
      have hc1 : ¬cond0_1 (grid0.coords t) := fun h => h1 ((hcond0_1 t).mp h)
      rw [leaves0_8_idle m c t hc0 h1, leaves0_10_idle m c t hc0 h1, leaves0_9_idle m c t hc1 h1, leaves0_11_idle m c t hc1 h1]
      simp only [before0_8 m c t (by omega)]
      iintro ⟨⟨⟨%S, HS, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB c (grid0.coords t) _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (XC m c) S Set.univ _)
      isplitl [H0]; · iexact H0
      isplitl [H3]; · iexact H3
      isplitl [H4]; · iexact H4
      isplitl [H5]; · iexact H5
      isplitl [H7]; · iexists _; iexact H7
      isplitl [H8]; · iexact H8
      isplitl [HS]; · iexact HS
      iintro ⟨H0, H3, H4, H5, H7, H8, HS⟩
      isplitl [HS Hg]
      · isplitl [HS]
        · iexists _; isplitl [HS]; · iexact HS
          ipureintro; exact agree_put m c t S hS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      isplitl [H10]; · iexists d10; iexact H10
      iexists d11; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the scratch holds anything. -/
theorem Phi_in (c : Dev nD) : Pipeline.ΦA spec0 c ⊢ ((dats m 0 c).Φ 0 : sProp 𝕄) := by
  rw [PhiA0_eq]
  show _ ⊢ iprop(scAt m c (512 * 0) ∗ (∃ r, prngReg c r))
  unfold scAt
  iintro ⟨⟨%S, HS⟩, Hg⟩
  isplitl [HS]
  · iexists S; isplitl [HS]; · iexact HS
    ipureintro; exact agree_zero m c S
  iexact Hg

/-- After the last it is given back at what it holds. -/
theorem Phi_out (c : Dev nD) : ((dats m 0 c).Φ (Fin.last cfg0.N) : sProp 𝕄) ⊢ Pipeline.ΦA spec0 c := by
  rw [PhiA0_eq]
  show iprop(scAt m c (512 * cfg0.N) ∗ (∃ r, prngReg c r)) ⊢ _
  unfold scAt
  iintro ⟨⟨%S, HS, -⟩, Hg⟩
  isplitl [HS]
  · iexists S; iexact HS
  iexact Hg

set_option backward.isDefEq.respectTransparency.types false in
set_option maxHeartbeats 800000 in
/-- The launch: every weakly fair execution ends, with the windows' arrays at what the proof data's points write back,
    every other buffer at what the host operations around the region leave, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Oproj.Same.lean ====
/- The frame of the kernel, from the frame of the idealised kernel.

   No rewrite was applied, so the two programs are the same text in two namespaces: their body tables and their `main`
   are equal at any floats, and the frame in `Run`, which holds at any floats, is the kernel's too. -/
module

public import proofs.«01_k».proof.Proof.Gen.Kernel
public import proofs.«01_k».proof.Proof.Oproj.Run

@[expose] public section

noncomputable section

namespace Cert.Kernel.Hand

open Idealize.ShloMosaic Idealize.SL.Sem

variable {F : FTy → Type} [FloatOps F]

set_option maxHeartbeats 4000000 in
/-- The kernel functions are equal. -/
theorem body_eq : @Cert.Kernel.cc0_oproj F _ _ = @Cert.KernelIdeal.cc0_oproj F _ _ := by
  unfold Cert.Kernel.cc0_oproj Cert.KernelIdeal.cc0_oproj
  rfl

/-- The tables of kernel functions are equal. -/
theorem defs₀_eq : Cert.Kernel.defs₀ (F := F) = Cert.KernelIdeal.defs₀ (F := F) := by
  unfold Cert.Kernel.defs₀ Cert.KernelIdeal.defs₀
  rw [body_eq]
  congr 1
  funext l a
  match l, a with
  | ⟨0, _⟩, (t, s) => rfl
  | ⟨_ + 1, h⟩, _ => exact absurd h (Nat.not_lt.2 (Nat.le_add_left _ _))

/-- And with the pipeline's own functions. -/
theorem defs_eq : Cert.Kernel.defs (F := F) = Cert.KernelIdeal.defs (F := F) := by
  unfold Cert.Kernel.defs Cert.KernelIdeal.defs
  rw [defs₀_eq]
  rfl

/-- The host programs are equal. -/
theorem main_eq : Cert.Kernel.main (F := F) = Cert.KernelIdeal.main (F := F) := rfl

variable (m : (ℓ : Loc nD τ sig) → Buf (Elt F) ℓ) (ρ : Dev nD → PrngReg)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [main_eq, defs_eq]
  exact Cert.KernelIdeal.Hand.frame (F := F) m ρ

end Cert.Kernel.Hand

end
-- ==== Proof.Oproj.Entry.lean ====
/- The argument blocks of the kernel's region, read at an index of the program's arguments. -/
module

public import proofs.«01_k».proof.Proof.Oproj.Data

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index_3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
theorem index_4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)
theorem index_5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)
theorem index_0 : ∀ t : Fin cfg0.N, win0_0.index t (0 : Fin 1) = 0 :=
  (by decide +kernel : ∀ t : Fin grid0.N, win0_0.index t (0 : Fin 1) = 0)
theorem index_1 : ∀ t : Fin cfg0.N, win0_1.index t (0 : Fin 1) = 0 :=
  (by decide +kernel : ∀ t : Fin grid0.N, win0_1.index t (0 : Fin 1) = 0)

/-! The entry contents of the reshaped arguments. -/

theorem V_main_v0 (c : Dev nD) : V m c main_v0 = shapeCast S128x8192 (m ((c : Thread nD τ).loc main_arg0)) shapeCasts_S1x128x8192_S128x8192 := by
  unfold V V0
  simp only [hostOps0, List.flatten_cons, List.flatten_nil, List.append_nil, List.cons_append, List.nil_append]
  after_results
  rfl
theorem V_main_v1 (c : Dev nD) : V m c main_v1 = shapeCast S1x7168 (m ((c : Thread nD τ).loc main_arg3)) shapeCasts_S7168_S1x7168 := by
  unfold V V0
  simp only [hostOps0, List.flatten_cons, List.flatten_nil, List.append_nil, List.cons_append, List.nil_append]
  after_results
  rfl
theorem V_main_v2 (c : Dev nD) : V m c main_v2 = shapeCast S128x7168 (m ((c : Thread nD τ).loc main_arg4)) shapeCasts_S1x128x7168_S128x7168 := by
  unfold V V0
  simp only [hostOps0, List.flatten_cons, List.flatten_nil, List.append_nil, List.cons_append, List.nil_append]
  after_results
  rfl
theorem V_main_v3 (c : Dev nD) : V m c main_v3 = shapeCast S1x7168 (m ((c : Thread nD τ).loc main_arg5)) shapeCasts_S7168_S1x7168 := by
  unfold V V0
  simp only [hostOps0, List.flatten_cons, List.flatten_nil, List.append_nil, List.cons_append, List.nil_append]
  after_results
  rfl

/-! The blocks. -/

theorem XS_eq (c : Dev nD) : XS m c = V m c main_arg1 := by
  unfold XS iblk
  generalize V m c (Pipeline.arrRef spec0 0) = B
  funext i
  blk_ext [index_0 t0_0]
theorem YS_eq (c : Dev nD) : YS m c = V m c main_arg6 := by
  unfold YS iblk
  generalize V m c (Pipeline.arrRef spec0 1) = B
  funext i
  blk_ext [index_1 t0_0]
theorem XA_eq (c : Dev nD) : XA m c = V m c main_v0 := by
  unfold XA iblk
  generalize V m c (Pipeline.arrRef spec0 2) = B
  funext i
  blk_ext [(index_2 t0_0).1, (index_2 t0_0).2]
theorem GA_eq (c : Dev nD) : GA m c = V m c main_v3 := by
  unfold GA iblk
  generalize V m c (Pipeline.arrRef spec0 6) = B
  funext i
  blk_ext [(index_6 t0_0).1, (index_6 t0_0).2]
theorem blk_3 (c : Dev nD) (t : Fin cfg0.N) (j : S8192x512.Idx) (i : S8192x7168.Idx) (h0 : (i 0).val = (j 0).val)
    (h1 : (i 1).val = 512 * t.val + (j 1).val) : iblk m c 3 t j = V m c main_arg2 i := by
  unfold iblk
  generalize V m c (Pipeline.arrRef spec0 3) = B
  refine congrArg B (funext fun a => Fin.ext ?_)
  match a with
  | ⟨0, _⟩ => blk_simp [(index_3 t).1] <;> exact h0.symm
  | ⟨1, _⟩ => blk_simp [(index_3 t).2]; rw [Nat.mul_comm t.val 512]; exact h1.symm
theorem blk_4 (c : Dev nD) (t : Fin cfg0.N) (j : S1x512.Idx) (i : S1x7168.Idx) (h0 : (i 0).val = (j 0).val)
    (h1 : (i 1).val = 512 * t.val + (j 1).val) : iblk m c 4 t j = V m c main_v1 i := by
  unfold iblk
  generalize V m c (Pipeline.arrRef spec0 4) = B
  refine congrArg B (funext fun a => Fin.ext ?_)
  match a with
  | ⟨0, _⟩ => blk_simp [(index_4 t).1] <;> exact h0.symm
  | ⟨1, _⟩ => blk_simp [(index_4 t).2]; rw [Nat.mul_comm t.val 512]; exact h1.symm
theorem blk_5 (c : Dev nD) (t : Fin cfg0.N) (j : S128x512.Idx) (i : S128x7168.Idx) (h0 : (i 0).val = (j 0).val)
    (h1 : (i 1).val = 512 * t.val + (j 1).val) : iblk m c 5 t j = V m c main_v2 i := by
  unfold iblk
  generalize V m c (Pipeline.arrRef spec0 5) = B
  refine congrArg B (funext fun a => Fin.ext ?_)
  match a with
  | ⟨0, _⟩ => blk_simp [(index_5 t).1] <;> exact h0.symm
  | ⟨1, _⟩ => blk_simp [(index_5 t).2]; rw [Nat.mul_comm t.val 512]; exact h1.symm

end Cert.KernelIdeal.Hand

end
-- ==== Proof.Oproj.Arrays.lean ====
/- What the kernel's result arrays hold after the region: every output window's array in the payloads of the blocks. -/
module

public import proofs.«01_k».proof.Proof.Oproj.Data

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Window 7's blocks are the column blocks in order. -/
theorem index_7 : ∀ t : Fin cfg0.N, win0_7.index t (0 : Fin 2) = 0 ∧ win0_7.index t (1 : Fin 2) = t.val :=
  (by decide +kernel : ∀ t : Fin grid0.N, win0_7.index t (0 : Fin 2) = 0 ∧ win0_7.index t (1 : Fin 2) = t.val)

/-- The residual sum's array: the points' columns side by side. -/
theorem arr_7 (c : Dev nD) : (dats m 0 c).arrAt 7 (cfgs 0).N = RO m c := by
  refine (dats m 0 c).arrAt_eq_of_covers 7 _ (by decide +kernel) fun t hf y => ?_
  blk_simp
  rw [after0_7]
  refine (RO_at m c t _ _ ?_ ?_).symm
  · blk_simp
    rw [(index_7 t).1]; omega
  · blk_simp
    rw [(index_7 t).2]; omega

section Whole

variable {c : Dev nD} (dat : Dat τ (Elt F) Unit ℕ (UR sig nD τ) ℕ cfg0 c)

/-- Window 8's array is what the last point leaves. -/
theorem whole_8 (X : Vec F S128x8192 .fp8e4m3) (h : dat.after 8 t0_13 = X) : dat.arrAt 8 cfg0.N = X := by
  refine dat.arrAt_eq_of_after_last 8 t0_13 (by decide +kernel) _ fun j => ?_
  rw [h]
  rfl
/-- Window 9's array is what the last point leaves. -/
theorem whole_9 (X : Vec F S128x7168 .fp8e4m3) (h : dat.after 9 t0_13 = X) : dat.arrAt 9 cfg0.N = X := by
  refine dat.arrAt_eq_of_after_last 9 t0_13 (by decide +kernel) _ fun j => ?_
  rw [h]
  rfl
/-- Window 10's array is what the last point leaves. -/
theorem whole_10 (X : Vec F S1 .f32) (h : dat.after 10 t0_13 = X) : dat.arrAt 10 cfg0.N = X := by
  refine dat.arrAt_eq_of_after_last 10 t0_13 (by decide +kernel) _ fun j => ?_
  rw [h]
  rfl
/-- Window 11's array is what the last point leaves. -/
theorem whole_11 (X : Vec F S1 .f32) (h : dat.after 11 t0_13 = X) : dat.arrAt 11 cfg0.N = X := by
  refine dat.arrAt_eq_of_after_last 11 t0_13 (by decide +kernel) _ fun j => ?_
  rw [h]
  rfl

end Whole

/-- The activation's codes. -/
theorem arr_8 (c : Dev nD) : (dats m 0 c).arrAt 8 (cfgs 0).N = XC m c := whole_8 _ _ (after0_8 m c _)
/-- The normalised array's codes. -/
theorem arr_9 (c : Dev nD) : (dats m 0 c).arrAt 9 (cfgs 0).N = k0_pay8 (RO m c) (GA m c) (YS m c z1) := whole_9 _ _ (after0_9 m c _)
/-- The activation's maximum. -/
theorem arr_10 (c : Dev nD) : (dats m 0 c).arrAt 10 (cfgs 0).N = fun _ => k0_pay2 (XA m c) := whole_10 _ _ (after0_10 m c _)
/-- The normalised array's maximum. -/
theorem arr_11 (c : Dev nD) : (dats m 0 c).arrAt 11 (cfgs 0).N = fun _ => k0_pay7 (RO m c) (GA m c) := whole_11 _ _ (after0_11 m c _)

end Cert.KernelIdeal.Hand

end
-- ==== Proof.Oproj.Values.lean ====
/- What the kernel's results hold after the whole program, in the payloads of the argument blocks. -/
module

public import proofs.«01_k».proof.Proof.Oproj.Arrays
public import proofs.«01_k».proof.Proof.Oproj.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are different buffers. -/
theorem arr_inj : Function.Injective (Pipeline.arrRef spec0) := by decide +kernel

theorem tail_v5 (c : Dev nD) : Pipeline.afterTail₀ cfgs (dats m) 0 (V0 m) [hostOps1] c main_v5
    = shapeCast S1x128x7168 (RO m c) shapeCasts_S128x7168_S1x128x7168 := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 7
  replace h := h.trans (arr_7 m c)
  rw [← h]
  rfl
theorem tail_v6 (c : Dev nD) : Pipeline.afterTail₀ cfgs (dats m) 0 (V0 m) [hostOps1] c main_v6
    = shapeCast S1x128x8192 (XC m c) shapeCasts_S128x8192_S1x128x8192 := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 8
  replace h := h.trans (arr_8 m c)
  rw [← h]
  rfl
theorem tail_v7 (c : Dev nD) : Pipeline.afterTail₀ cfgs (dats m) 0 (V0 m) [hostOps1] c main_v7
    = shapeCast S1x128x7168 (k0_pay8 (RO m c) (GA m c) (YS m c z1)) shapeCasts_S128x7168_S1x128x7168 := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 9
  replace h := h.trans (arr_9 m c)
  rw [← h]
  rfl

/-- The run: each result array in the payloads of the argument blocks, the argument arrays unchanged. -/
theorem run_values : θ_run defs (onTc (τ := τ) (main (F := F))) ⟨m, fun _ => 0, ρ⟩ (fun r => ∀ c : Dev nD,
      r.2.mem ((c.tc : Thread nD τ).loc main_v5) = shapeCast S1x128x7168 (RO m c) shapeCasts_S128x7168_S1x128x7168
      ∧ r.2.mem ((c.tc : Thread nD τ).loc main_v6) = shapeCast S1x128x8192 (XC m c) shapeCasts_S128x8192_S1x128x8192
      ∧ r.2.mem ((c.tc : Thread nD τ).loc main_v7) = shapeCast S1x128x7168 (k0_pay8 (RO m c) (GA m c) (YS m c z1)) shapeCasts_S128x7168_S1x128x7168
      ∧ r.2.mem ((c.tc : Thread nD τ).loc main_v4_3) = (fun _ => k0_pay2 (XA m c))
      ∧ r.2.mem ((c.tc : Thread nD τ).loc main_v4_4) = (fun _ => k0_pay7 (RO m c) (GA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (run_main m ρ) (frame_of m ρ (dats m) (A_eq m) (run_main m ρ)))
  refine ⟨((h.1 c).2 main_v5 (Pipeline.mem_restRefs_of main_v5 (by decide) (by decide))).trans (tail_v5 m c), ((h.1 c).2 main_v6 (Pipeline.mem_restRefs_of main_v6 (by decide) (by decide))).trans (tail_v6 m c), ((h.1 c).2 main_v7 (Pipeline.mem_restRefs_of main_v7 (by decide) (by decide))).trans (tail_v7 m c), ((h.1 c).1 10).trans (arr_10 m c), ((h.1 c).1 11).trans (arr_11 m c), h.2 c⟩

end Cert.KernelIdeal.Hand

end
-- ==== Proof.Oproj.RefArrays.lean ====
/- What the reference's result arrays hold after its region: each window's array as the payload of the argument blocks. -/
module

public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body leaves in window 7's buffer: one whole store of the payload. -/
theorem out_7 (x0 : Vec F S128x8192 .bf16) (x1 : Vec F S1x1 .f32) (x2 : Vec F S8192x7168 .fp8e4m3) (x3 : Vec F S1x7168 .f32) (x4 : Vec F S128x7168 .bf16) (x5 : Vec F S1x7168 .bf16) (x6 : Vec F S1x1 .f32) :
    out0_7 x0 x1 x2 x3 x4 x5 x6 = k0_pay7 x0 x1 x2 x1 x3 x4 := by
  frame_out
/-- What the body leaves in window 8's buffer: one whole store of the payload. -/
theorem out_8 (x0 : Vec F S128x8192 .bf16) (x1 : Vec F S1x1 .f32) (x2 : Vec F S8192x7168 .fp8e4m3) (x3 : Vec F S1x7168 .f32) (x4 : Vec F S128x7168 .bf16) (x5 : Vec F S1x7168 .bf16) (x6 : Vec F S1x1 .f32) :
    out0_8 x0 x1 x2 x3 x4 x5 x6 = k0_pay6 x0 x1 := by
  frame_out
/-- What the body leaves in window 9's buffer: one whole store of the payload. -/
theorem out_9 (x0 : Vec F S128x8192 .bf16) (x1 : Vec F S1x1 .f32) (x2 : Vec F S8192x7168 .fp8e4m3) (x3 : Vec F S1x7168 .f32) (x4 : Vec F S128x7168 .bf16) (x5 : Vec F S1x7168 .bf16) (x6 : Vec F S1x1 .f32) :
    out0_9 x0 x1 x2 x3 x4 x5 x6 = k0_pay3 (k0_pay8 x0 x1 x2 x1 x3 x4) (k0_pay9 x0 x1 x2 x1 x3 x4) x5 x6 := by
  frame_out
  unfold k0_pay10 k0_pay11
  frame_out
/-- What the body leaves in window 10's buffer: one whole store of the payload. -/
theorem out_10 (x0 : Vec F S128x8192 .bf16) (x1 : Vec F S1x1 .f32) (x2 : Vec F S8192x7168 .fp8e4m3) (x3 : Vec F S1x7168 .f32) (x4 : Vec F S128x7168 .bf16) (x5 : Vec F S1x7168 .bf16) (x6 : Vec F S1x1 .f32) :
    out0_10 x0 x1 x2 x3 x4 x5 x6 = k0_pay5 x0 := by
  frame_out
/-- What the body leaves in window 11's buffer: one whole store of the payload. -/
theorem out_11 (x0 : Vec F S128x8192 .bf16) (x1 : Vec F S1x1 .f32) (x2 : Vec F S8192x7168 .fp8e4m3) (x3 : Vec F S1x7168 .f32) (x4 : Vec F S128x7168 .bf16) (x5 : Vec F S1x7168 .bf16) (x6 : Vec F S1x1 .f32) :
    out0_11 x0 x1 x2 x3 x4 x5 x6 = k0_pay2 (k0_pay8 x0 x1 x2 x1 x3 x4) (k0_pay9 x0 x1 x2 x1 x3 x4) x5 := by
  frame_out
  unfold k0_pay10 k0_pay11
  frame_out

section Whole

variable {c : Dev nD} (dat : Dat τ (Elt F) Unit ℕ (UR sig nD τ) ℕ cfg0 c)

/-- Window 7's array is what the grid's point leaves. -/
theorem whole_7 (X : Vec F S128x7168 .bf16) (h : dat.after 7 t0_0 = X) : dat.arrAt 7 cfg0.N = X := by
  refine dat.arrAt_eq_of_after_last 7 t0_0 (by decide +kernel) _ fun j => ?_
  rw [h]
  rfl
/-- Window 8's array is what the grid's point leaves. -/
theorem whole_8 (X : Vec F S128x8192 .fp8e4m3) (h : dat.after 8 t0_0 = X) : dat.arrAt 8 cfg0.N = X := by
  refine dat.arrAt_eq_of_after_last 8 t0_0 (by decide +kernel) _ fun j => ?_
  rw [h]
  rfl
/-- Window 9's array is what the grid's point leaves. -/
theorem whole_9 (X : Vec F S128x7168 .fp8e4m3) (h : dat.after 9 t0_0 = X) : dat.arrAt 9 cfg0.N = X := by
  refine dat.arrAt_eq_of_after_last 9 t0_0 (by decide +kernel) _ fun j => ?_
  rw [h]
  rfl
/-- Window 10's array is what the grid's point leaves. -/
theorem whole_10 (X : Vec F S1x1 .f32) (h : dat.after 10 t0_0 = X) : dat.arrAt 10 cfg0.N = X := by
  refine dat.arrAt_eq_of_after_last 10 t0_0 (by decide +kernel) _ fun j => ?_
  rw [h]
  rfl
/-- Window 11's array is what the grid's point leaves. -/
theorem whole_11 (X : Vec F S1x1 .f32) (h : dat.after 11 t0_0 = X) : dat.arrAt 11 cfg0.N = X := by
  refine dat.arrAt_eq_of_after_last 11 t0_0 (by decide +kernel) _ fun j => ?_
  rw [h]
  rfl

end Whole

/-! The argument blocks, each a whole array. -/

def X (c : Dev nD) : Vec F S128x8192 .bf16 := iblk m c 0 t0_0
def XS (c : Dev nD) : Vec F S1x1 .f32 := iblk m c 1 t0_0
def W (c : Dev nD) : Vec F S8192x7168 .fp8e4m3 := iblk m c 2 t0_0
def WS (c : Dev nD) : Vec F S1x7168 .f32 := iblk m c 3 t0_0
def RES (c : Dev nD) : Vec F S128x7168 .bf16 := iblk m c 4 t0_0
def GA (c : Dev nD) : Vec F S1x7168 .bf16 := iblk m c 5 t0_0
def YS (c : Dev nD) : Vec F S1x1 .f32 := iblk m c 6 t0_0

/-- The residual sum. -/
theorem arr_7 (c : Dev nD) : (dats m 0 c).arrAt 7 (cfgs 0).N = k0_pay7 (X m c) (XS m c) (W m c) (XS m c) (WS m c) (RES m c) :=
  whole_7 _ _ ((after0_7 m c _).trans (out_7 _ _ _ _ _ _ _))
/-- The activation's codes. -/
theorem arr_8 (c : Dev nD) : (dats m 0 c).arrAt 8 (cfgs 0).N = k0_pay6 (X m c) (XS m c) :=
  whole_8 _ _ ((after0_8 m c _).trans (out_8 _ _ _ _ _ _ _))
/-- The normalised array's codes. -/
theorem arr_9 (c : Dev nD) : (dats m 0 c).arrAt 9 (cfgs 0).N = k0_pay3 (k0_pay8 (X m c) (XS m c) (W m c) (XS m c) (WS m c) (RES m c)) (k0_pay9 (X m c) (XS m c) (W m c) (XS m c) (WS m c) (RES m c)) (GA m c) (YS m c) :=
  whole_9 _ _ ((after0_9 m c _).trans (out_9 _ _ _ _ _ _ _))
/-- The activation's maximum. -/
theorem arr_10 (c : Dev nD) : (dats m 0 c).arrAt 10 (cfgs 0).N = k0_pay5 (X m c) :=
  whole_10 _ _ ((after0_10 m c _).trans (out_10 _ _ _ _ _ _ _))
/-- The normalised array's maximum. -/
theorem arr_11 (c : Dev nD) : (dats m 0 c).arrAt 11 (cfgs 0).N = k0_pay2 (k0_pay8 (X m c) (XS m c) (W m c) (XS m c) (WS m c) (RES m c)) (k0_pay9 (X m c) (XS m c) (W m c) (XS m c) (WS m c) (RES m c)) (GA m c) :=
  whole_11 _ _ ((after0_11 m c _).trans (out_11 _ _ _ _ _ _ _))

end Cert.ReferenceIdeal.Hand

end
-- ==== Proof.Oproj.RefValues.lean ====
/- What the reference's results hold after the whole program, in the payloads of the argument blocks, and those blocks in the arguments. -/
module

public import proofs.«01_k».proof.Proof.Oproj.RefArrays

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are different buffers. -/
theorem arr_inj : Function.Injective (Pipeline.arrRef spec0) := by decide +kernel

theorem tail_v7 (c : Dev nD) : Pipeline.afterTail₀ cfgs (dats m) 0 (V0 m) [hostOps1] c main_v7
    = broadcastInDim S1x128x7168 ![1, 2] bcast_S128x7168_S1x128x7168_1_2 (k0_pay7 (X m c) (XS m c) (W m c) (XS m c) (WS m c) (RES m c)) := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 7
  replace h := h.trans (arr_7 m c)
  rw [← h]
theorem tail_v8 (c : Dev nD) : Pipeline.afterTail₀ cfgs (dats m) 0 (V0 m) [hostOps1] c main_v8
    = broadcastInDim S1x128x8192 ![1, 2] bcast_S128x8192_S1x128x8192_1_2 (k0_pay6 (X m c) (XS m c)) := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 8
  replace h := h.trans (arr_8 m c)
  rw [← h]
theorem tail_v9 (c : Dev nD) : Pipeline.afterTail₀ cfgs (dats m) 0 (V0 m) [hostOps1] c main_v9
    = broadcastInDim S1x128x7168 ![1, 2] bcast_S128x7168_S1x128x7168_1_2 (k0_pay3 (k0_pay8 (X m c) (XS m c) (W m c) (XS m c) (WS m c) (RES m c)) (k0_pay9 (X m c) (XS m c) (W m c) (XS m c) (WS m c) (RES m c)) (GA m c) (YS m c)) := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 9
  replace h := h.trans (arr_9 m c)
  rw [← h]
theorem tail_v10 (c : Dev nD) : Pipeline.afterTail₀ cfgs (dats m) 0 (V0 m) [hostOps1] c main_v10
    = shapeCast S1 (k0_pay5 (X m c)) shapeCasts_S1x1_S1 := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 10
  replace h := h.trans (arr_10 m c)
  rw [← h]
  rfl
theorem tail_v11 (c : Dev nD) : Pipeline.afterTail₀ cfgs (dats m) 0 (V0 m) [hostOps1] c main_v11
    = shapeCast S1 (k0_pay2 (k0_pay8 (X m c) (XS m c) (W m c) (XS m c) (WS m c) (RES m c)) (k0_pay9 (X m c) (XS m c) (W m c) (XS m c) (WS m c) (RES m c)) (GA m c)) shapeCasts_S1x1_S1 := by
  unfold Pipeline.afterTail₀
  simp only [hostOps1, List.flatten_cons, List.flatten_nil, List.append_nil, List.cons_append, List.nil_append]
  after_results
  have h := Pipeline.withArrays_arr spec0 arr_inj c (V0 m c) (fun w => (dats m 0 c).arrAt w (cfgs 0).N) 11
  replace h := h.trans (arr_11 m c)
  rw [← h]
  rfl

/-- The run: each result array in the payloads of the argument blocks, the argument arrays unchanged. -/
theorem run_values : θ_run defs (onTc (τ := τ) (main (F := F))) ⟨m, fun _ => 0, ρ⟩ (fun r => ∀ c : Dev nD,
      r.2.mem ((c.tc : Thread nD τ).loc main_v7) = broadcastInDim S1x128x7168 ![1, 2] bcast_S128x7168_S1x128x7168_1_2 (k0_pay7 (X m c) (XS m c) (W m c) (XS m c) (WS m c) (RES m c))
      ∧ r.2.mem ((c.tc : Thread nD τ).loc main_v8) = broadcastInDim S1x128x8192 ![1, 2] bcast_S128x8192_S1x128x8192_1_2 (k0_pay6 (X m c) (XS m c))
      ∧ r.2.mem ((c.tc : Thread nD τ).loc main_v9) = broadcastInDim S1x128x7168 ![1, 2] bcast_S128x7168_S1x128x7168_1_2 (k0_pay3 (k0_pay8 (X m c) (XS m c) (W m c) (XS m c) (WS m c) (RES m c)) (k0_pay9 (X m c) (XS m c) (W m c) (XS m c) (WS m c) (RES m c)) (GA m c) (YS m c))
      ∧ r.2.mem ((c.tc : Thread nD τ).loc main_v10) = shapeCast S1 (k0_pay5 (X m c)) shapeCasts_S1x1_S1
      ∧ r.2.mem ((c.tc : Thread nD τ).loc main_v11) = shapeCast S1 (k0_pay2 (k0_pay8 (X m c) (XS m c) (W m c) (XS m c) (WS m c) (RES m c)) (k0_pay9 (X m c) (XS m c) (W m c) (XS m c) (WS m c) (RES m c)) (GA m c)) shapeCasts_S1x1_S1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (θ_run_and (run_main m ρ) (frame_of m ρ (dats m) (A_eq m) (run_main m ρ)))
  refine ⟨((h.1 c).2 main_v7 (Pipeline.mem_restRefs_of main_v7 (by decide) (by decide))).trans (tail_v7 m c), ((h.1 c).2 main_v8 (Pipeline.mem_restRefs_of main_v8 (by decide) (by decide))).trans (tail_v8 m c), ((h.1 c).2 main_v9 (Pipeline.mem_restRefs_of main_v9 (by decide) (by decide))).trans (tail_v9 m c), ((h.1 c).2 main_v10 (Pipeline.mem_restRefs_of main_v10 (by decide) (by decide))).trans (tail_v10 m c), ((h.1 c).2 main_v11 (Pipeline.mem_restRefs_of main_v11 (by decide) (by decide))).trans (tail_v11 m c), h.2 c⟩

/-! The blocks in the arguments. -/

theorem index_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem V_main_v0 (c : Dev nD) : V m c main_v0 = shapeCast S128x8192 (m ((c : Thread nD τ).loc main_arg0)) shapeCasts_S1x128x8192_S128x8192 := by
  unfold V V0
  simp only [hostOps0, List.flatten_cons, List.flatten_nil, List.append_nil, List.cons_append, List.nil_append]
  after_results
  rfl
theorem V_main_v1 (c : Dev nD) : V m c main_v1 = shapeCast S1x1 (m ((c : Thread nD τ).loc main_arg1)) shapeCasts_S1_S1x1 := by
  unfold V V0
  simp only [hostOps0, List.flatten_cons, List.flatten_nil, List.append_nil, List.cons_append, List.nil_append]
  after_results
  rfl
theorem V_main_v2 (c : Dev nD) : V m c main_v2 = shapeCast S1x7168 (m ((c : Thread nD τ).loc main_arg3)) shapeCasts_S7168_S1x7168 := by
  unfold V V0
  simp only [hostOps0, List.flatten_cons, List.flatten_nil, List.append_nil, List.cons_append, List.nil_append]
  after_results
  rfl
theorem V_main_v3 (c : Dev nD) : V m c main_v3 = shapeCast S128x7168 (m ((c : Thread nD τ).loc main_arg4)) shapeCasts_S1x128x7168_S128x7168 := by
  unfold V V0
  simp only [hostOps0, List.flatten_cons, List.flatten_nil, List.append_nil, List.cons_append, List.nil_append]
  after_results
  rfl
theorem V_main_v4 (c : Dev nD) : V m c main_v4 = shapeCast S1x7168 (m ((c : Thread nD τ).loc main_arg5)) shapeCasts_S7168_S1x7168 := by
  unfold V V0
  simp only [hostOps0, List.flatten_cons, List.flatten_nil, List.append_nil, List.cons_append, List.nil_append]
  after_results
  rfl
theorem V_main_v5 (c : Dev nD) : V m c main_v5 = shapeCast S1x1 (m ((c : Thread nD τ).loc main_arg6)) shapeCasts_S1_S1x1 := by
  unfold V V0
  simp only [hostOps0, List.flatten_cons, List.flatten_nil, List.append_nil, List.cons_append, List.nil_append]
  after_results
  rfl
theorem X_eq (c : Dev nD) : X m c = V m c main_v0 := by
  unfold X iblk
  generalize V m c (Pipeline.arrRef spec0 0) = B
  funext i
  blk_ext [(index_0 t0_0).1, (index_0 t0_0).2]
theorem XS_eq (c : Dev nD) : XS m c = V m c main_v1 := by
  unfold XS iblk
  generalize V m c (Pipeline.arrRef spec0 1) = B
  funext i
  blk_ext [(index_1 t0_0).1, (index_1 t0_0).2]
theorem W_eq (c : Dev nD) : W m c = V m c main_arg2 := by
  unfold W iblk
  generalize V m c (Pipeline.arrRef spec0 2) = B
  funext i
  blk_ext [(index_2 t0_0).1, (index_2 t0_0).2]
theorem WS_eq (c : Dev nD) : WS m c = V m c main_v2 := by
  unfold WS iblk
  generalize V m c (Pipeline.arrRef spec0 3) = B
  funext i
  blk_ext [(index_3 t0_0).1, (index_3 t0_0).2]
theorem RES_eq (c : Dev nD) : RES m c = V m c main_v3 := by
  unfold RES iblk
  generalize V m c (Pipeline.arrRef spec0 4) = B
  funext i
  blk_ext [(index_4 t0_0).1, (index_4 t0_0).2]
theorem GA_eq (c : Dev nD) : GA m c = V m c main_v4 := by
  unfold GA iblk
  generalize V m c (Pipeline.arrRef spec0 5) = B
  funext i
  blk_ext [(index_5 t0_0).1, (index_5 t0_0).2]
theorem YS_eq (c : Dev nD) : YS m c = V m c main_v5 := by
  unfold YS iblk
  generalize V m c (Pipeline.arrRef spec0 6) = B
  funext i
  blk_ext [(index_6 t0_0).1, (index_6 t0_0).2]

end Cert.ReferenceIdeal.Hand

end
-- ==== Proof.Oproj.Tie.lean ====
/- The kernel's payloads against the reference's. -/
module

public import proofs.«01_k».proof.Proof.Gen.KernelIdeal.Skeleton
public import proofs.«01_k».proof.Proof.Gen.ReferenceIdeal.Skeleton
public import Idealize.ShloMosaic.Lib.Pipeline.ValueKit
public import Idealize.ShloMosaic.Lib.Tactic.ValueTie

@[expose] public section

set_option maxRecDepth 16384

noncomputable section

namespace Cert.Tie

open Cert.KernelIdeal (S1 S1x512 S1x7168 S128x512 S128x7168 S128x8192 S8192x512 S8192x7168)
open Cert.ReferenceIdeal (S1x1)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The reference's payloads, with every scale in a 1 by 1 array, are the kernel's, with it in one word. -/

/-- The activation's maximum. -/
theorem amax_x (X : Vec Ideal S128x8192 .bf16) : ReferenceIdeal.Gen.k0_pay5 X = fun _ => KernelIdeal.Gen.k0_pay2 X := by
  funext i
  unfold ReferenceIdeal.Gen.k0_pay5 ReferenceIdeal.Gen.k0_pay4 KernelIdeal.Gen.k0_pay2 KernelIdeal.Gen.k0_pay1
  clean_types
  pointwise

/-- The activation's codes: a scale held in one word against the same scale in a 1 by 1 array. -/
theorem codes_x (xs : Ideal .f32) (X : Vec Ideal S128x8192 .bf16) :
    ReferenceIdeal.Gen.k0_pay6 X (fun _ => xs) = KernelIdeal.Gen.k0_pay3 xs X := by
  funext i
  unfold ReferenceIdeal.Gen.k0_pay6 ReferenceIdeal.Gen.k0_pay4 KernelIdeal.Gen.k0_pay3 KernelIdeal.Gen.k0_pay1
  clean_types
  pointwise

variable (X : Vec Ideal S128x8192 .bf16) (xs ys : Ideal .f32) (XS : Vec Ideal S1x1 .f32) (W : Vec Ideal S8192x7168 .fp8e4m3) (WS : Vec Ideal S1x7168 .f32)
  (RES RO : Vec Ideal S128x7168 .bf16) (G : Vec Ideal S1x7168 .bf16)

/-- The normalised array, from the same residual sum. -/
theorem norm (h : ReferenceIdeal.Gen.k0_pay7 X XS W XS WS RES = RO) :
    ReferenceIdeal.Gen.k0_pay1 (ReferenceIdeal.Gen.k0_pay8 X XS W XS WS RES) (ReferenceIdeal.Gen.k0_pay9 X XS W XS WS RES) G
      = KernelIdeal.Gen.k0_pay6 RO G := by
  unfold ReferenceIdeal.Gen.k0_pay9 ReferenceIdeal.Gen.k0_pay8
  rw [h]
  funext i
  unfold ReferenceIdeal.Gen.k0_pay1 KernelIdeal.Gen.k0_pay6
  clean_types
  pointwise

/-- Its maximum. -/
theorem amax_y (h : ReferenceIdeal.Gen.k0_pay7 X XS W XS WS RES = RO) :
    ReferenceIdeal.Gen.k0_pay2 (ReferenceIdeal.Gen.k0_pay8 X XS W XS WS RES) (ReferenceIdeal.Gen.k0_pay9 X XS W XS WS RES) G
      = fun _ => KernelIdeal.Gen.k0_pay7 RO G := by
  unfold ReferenceIdeal.Gen.k0_pay2
  rw [norm X XS W WS RES RO G h]
  funext i
  unfold KernelIdeal.Gen.k0_pay7
  generalize KernelIdeal.Gen.k0_pay6 RO G = Y
  clean_types
  pointwise

/-- Its codes. -/
theorem codes_y (h : ReferenceIdeal.Gen.k0_pay7 X XS W XS WS RES = RO) :
    ReferenceIdeal.Gen.k0_pay3 (ReferenceIdeal.Gen.k0_pay8 X XS W XS WS RES) (ReferenceIdeal.Gen.k0_pay9 X XS W XS WS RES) G (fun _ => ys)
      = KernelIdeal.Gen.k0_pay8 RO G ys := by
  unfold ReferenceIdeal.Gen.k0_pay3
  rw [norm X XS W WS RES RO G h]
  funext i
  unfold KernelIdeal.Gen.k0_pay8
  generalize KernelIdeal.Gen.k0_pay6 RO G = Y
  clean_types
  pointwise

/-- One entry of the residual sum: the 512-column tile's entry is the whole array's, wherever the tile's blocks are the whole arrays' columns. -/
theorem tile (X : Vec Ideal S128x8192 .bf16) (xs : Ideal .f32) (W : Vec Ideal S8192x7168 .fp8e4m3) (WS : Vec Ideal S1x7168 .f32)
    (RES : Vec Ideal S128x7168 .bf16) (w : Vec Ideal S8192x512 .fp8e4m3) (ws : Vec Ideal S1x512 .f32) (res : Vec Ideal S128x512 .bf16)
    (i : S128x7168.Idx) (j : S128x512.Idx) (n : ℕ) (h0 : (i 0).val = (j 0).val) (h1 : (i 1).val = n + (j 1).val)
    (hw : ∀ (a : S8192x512.Idx) (b : S8192x7168.Idx), (b 0).val = (a 0).val → (b 1).val = n + (a 1).val → w a = W b)
    (hws : ∀ (a : S1x512.Idx) (b : S1x7168.Idx), (b 0).val = (a 0).val → (b 1).val = n + (a 1).val → ws a = WS b)
    (hres : ∀ (a : S128x512.Idx) (b : S128x7168.Idx), (b 0).val = (a 0).val → (b 1).val = n + (a 1).val → res a = RES b) :
    ReferenceIdeal.Gen.k0_pay7 X (fun _ => xs) W (fun _ => xs) WS RES i
      = KernelIdeal.Gen.k0_pay4 xs (KernelIdeal.Gen.k0_pay3 xs X) w ws res j := by
  unfold ReferenceIdeal.Gen.k0_pay7
  rw [codes_x]
  generalize KernelIdeal.Gen.k0_pay3 xs X = C
  unfold KernelIdeal.Gen.k0_pay4
  clean_types
  pointwise
  rw [hres j i h0 h1, hws (ix2 0 (j 1)) (ix2 0 (i 1)) rfl h1]
  have hC : ∀ k, C (ix2 (i 0) k) = C (ix2 (j 0) k) := fun k => by rw [Fin.ext h0]
  have hW : ∀ k, w (ix2 k (j 1)) = W (ix2 k (i 1)) := fun k => hw _ _ rfl h1
  simp only [hC, hW]

end Cert.Tie

end
-- ==== Proof.Oproj.Blocks.lean ====
/- The kernel's results are the reference's, as extended reals, from memories that agree on the arguments. -/
module

public import proofs.«01_k».proof.Defs
public import proofs.«01_k».proof.Proof.Oproj.Entry
public import proofs.«01_k».proof.Proof.Oproj.Values
public import proofs.«01_k».proof.Proof.Oproj.RefValues
public import proofs.«01_k».proof.Proof.Oproj.Tie

@[expose] public section

set_option maxRecDepth 16384

noncomputable section

namespace Cert.Tie

open Cert.KernelIdeal (S1 S1x512 S1x7168 S128x512 S128x7168 S128x8192 S8192x512 S8192x7168)
open Cert.ReferenceIdeal (S1x1)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories hold the same arguments on device `c`. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)

variable {m m'} {c : Dev KernelIdeal.nD} (h : Same m m' c)
include h

/-! ## The argument blocks -/

/-- The activation. -/
theorem X_tie : ReferenceIdeal.Hand.X m' c = KernelIdeal.Hand.XA m c := by
  rw [ReferenceIdeal.Hand.X_eq, ReferenceIdeal.Hand.V_main_v0, KernelIdeal.Hand.XA_eq, KernelIdeal.Hand.V_main_v0, h.1]
/-- Its scale. -/
theorem XS_tie : ReferenceIdeal.Hand.XS m' c = fun _ => KernelIdeal.Hand.XS m c KernelIdeal.Hand.z1 := by
  rw [ReferenceIdeal.Hand.XS_eq, ReferenceIdeal.Hand.V_main_v1, KernelIdeal.Hand.XS_eq, KernelIdeal.Gen.V_main_arg1, h.2.1]
  funext i
  unfold shapeCast
  exact congrArg _ (KernelIdeal.Hand.idx_z1 _)
/-- The weight. -/
theorem W_tie : ReferenceIdeal.Hand.W m' c = KernelIdeal.Gen.V m c KernelIdeal.main_arg2 := by
  rw [ReferenceIdeal.Hand.W_eq, ReferenceIdeal.Gen.V_main_arg2, KernelIdeal.Gen.V_main_arg2, h.2.2.1]
/-- Its column scales. -/
theorem WS_tie : ReferenceIdeal.Hand.WS m' c = KernelIdeal.Gen.V m c KernelIdeal.main_v1 := by
  rw [ReferenceIdeal.Hand.WS_eq, ReferenceIdeal.Hand.V_main_v2, KernelIdeal.Hand.V_main_v1, h.2.2.2.1]
/-- The residual. -/
theorem RES_tie : ReferenceIdeal.Hand.RES m' c = KernelIdeal.Gen.V m c KernelIdeal.main_v2 := by
  rw [ReferenceIdeal.Hand.RES_eq, ReferenceIdeal.Hand.V_main_v3, KernelIdeal.Hand.V_main_v2, h.2.2.2.2.1]
/-- The norm's gain. -/
theorem GA_tie : ReferenceIdeal.Hand.GA m' c = KernelIdeal.Hand.GA m c := by
  rw [ReferenceIdeal.Hand.GA_eq, ReferenceIdeal.Hand.V_main_v4, KernelIdeal.Hand.GA_eq, KernelIdeal.Hand.V_main_v3, h.2.2.2.2.2.1]
/-- The normalised array's scale. -/
theorem YS_tie : ReferenceIdeal.Hand.YS m' c = fun _ => KernelIdeal.Hand.YS m c KernelIdeal.Hand.z1 := by
  rw [ReferenceIdeal.Hand.YS_eq, ReferenceIdeal.Hand.V_main_v5, KernelIdeal.Hand.YS_eq, KernelIdeal.Gen.V_main_arg6, h.2.2.2.2.2.2]
  funext i
  unfold shapeCast
  exact congrArg _ (KernelIdeal.Hand.idx_z1 _)

/-! ## The results of the two regions -/

/-- The residual sum, before the final reshapes: each entry is the entry of its column block. -/
theorem RO_tie : ReferenceIdeal.Gen.k0_pay7 (ReferenceIdeal.Hand.X m' c) (ReferenceIdeal.Hand.XS m' c) (ReferenceIdeal.Hand.W m' c)
    (ReferenceIdeal.Hand.XS m' c) (ReferenceIdeal.Hand.WS m' c) (ReferenceIdeal.Hand.RES m' c) = KernelIdeal.Hand.RO m c := by
  rw [X_tie h, XS_tie h, W_tie h, WS_tie h, RES_tie h]
  funext i
  have hi := KernelIdeal.Hand.col_lt i
  have hj := Nat.mod_lt (i 1).val (show 0 < 512 by omega)
  have hd := Nat.div_add_mod (i 1).val 512
  let t := KernelIdeal.Hand.colPt (i 1).val hi
  let j : S128x512.Idx := ix2 (i 0) ⟨(i 1).val % 512, hj⟩
  have e1 : (i 1).val = 512 * t.val + (j 1).val := hd.symm
  rw [KernelIdeal.Hand.RO_at m c t i j rfl e1]
  exact tile _ _ _ _ _ _ _ _ i j (512 * t.val) rfl e1
    (fun a b => KernelIdeal.Hand.blk_3 m c t a b) (fun a b => KernelIdeal.Hand.blk_4 m c t a b) (fun a b => KernelIdeal.Hand.blk_5 m c t a b)

/-- The activation's codes. -/
theorem XC_tie : ReferenceIdeal.Gen.k0_pay6 (ReferenceIdeal.Hand.X m' c) (ReferenceIdeal.Hand.XS m' c) = KernelIdeal.Hand.XC m c := by
  rw [X_tie h, XS_tie h]
  exact codes_x _ _

omit h

/-- Adding a leading axis of length one, by a broadcast or by a reshape. -/
theorem lead_7168 (Y : Vec Ideal S128x7168 .bf16) :
    broadcastInDim ReferenceIdeal.S1x128x7168 ![1, 2] ReferenceIdeal.Gen.bcast_S128x7168_S1x128x7168_1_2 Y = shapeCast KernelIdeal.S1x128x7168 Y KernelIdeal.Gen.shapeCasts_S128x7168_S1x128x7168 := by
  funext i
  clean_types
  pointwise
/-- Adding a leading axis of length one, by a broadcast or by a reshape. -/
theorem lead_8192 (Y : Vec Ideal S128x8192 .fp8e4m3) :
    broadcastInDim ReferenceIdeal.S1x128x8192 ![1, 2] ReferenceIdeal.Gen.bcast_S128x8192_S1x128x8192_1_2 Y = shapeCast KernelIdeal.S1x128x8192 Y KernelIdeal.Gen.shapeCasts_S128x8192_S1x128x8192 := by
  funext i
  clean_types
  pointwise
/-- Adding a leading axis of length one, by a broadcast or by a reshape. -/
theorem lead_7168_codes (Y : Vec Ideal S128x7168 .fp8e4m3) :
    broadcastInDim ReferenceIdeal.S1x128x7168 ![1, 2] ReferenceIdeal.Gen.bcast_S128x7168_S1x128x7168_1_2 Y = shapeCast KernelIdeal.S1x128x7168 Y KernelIdeal.Gen.shapeCasts_S128x7168_S1x128x7168 := by
  funext i
  clean_types
  pointwise

end Cert.Tie

end
-- ==== Proof.Oproj.Algebraic.lean ====
/- The value claim: on the extended reals the kernel's five results are the reference's. -/
module

public import proofs.«01_k».proof.Proof.Oproj.Blocks

@[expose] public section

set_option maxRecDepth 16384

noncomputable section

namespace Cert.Tie

open Cert.KernelIdeal (S1)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- From memories that agree on the arguments, both programs run and end with equal results and unchanged arguments. -/
theorem algebraic : Cert.algebraic_KernelIdeal_ReferenceIdeal (hKernelIdeal := KernelIdeal.Gen.facts) (hReferenceIdeal := ReferenceIdeal.Gen.facts) := by
  intro m g m' g' _ hsame
  refine ⟨_, _, _, _, _, KernelIdeal.Hand.run_values m g, (θ_run _ _ _).mono (fun r h c => ?_) (ReferenceIdeal.Hand.run_values m' g')⟩
  have hs : Same m m' c := hsame c
  obtain ⟨h7, h8, h9, h10, h11, hargs⟩ := h c
  refine ⟨h7.trans ?_, h8.trans ?_, h9.trans ?_, h10.trans ?_, h11.trans ?_, hargs⟩
  · rw [RO_tie hs]
    exact lead_7168 _
  · rw [XC_tie hs]
    exact lead_8192 _
  · rw [YS_tie hs, codes_y _ _ _ _ _ _ _ _ (RO_tie hs), GA_tie hs]
    exact lead_7168_codes _
  · rw [amax_x, X_tie hs]
    rfl
  · rw [amax_y _ _ _ _ _ _ _ (RO_tie hs), GA_tie hs]
    rfl

end Cert.Tie

end
-- ==== Proof.lean ====
/- The certificate: the frames of the three programs, the idealisation, and the value claim of all five results.

   The frame of the reference is a generated module. The frame of the idealised kernel is `Proof/Oproj/Run.lean`, over proof
   data that name what every buffer holds, so that its run also gives the results' values; the kernel is the same program, so
   `Proof/Oproj/Same.lean` has its frame from that one. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Oproj.Same
public import proofs.«01_k».proof.Proof.Oproj.Algebraic

@[expose] public section

noncomputable section

namespace Cert.Proof

/-- Every claim, at the generated witnesses of the programs' side conditions. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ,
    trivial, Cert.Tie.algebraic⟩

end Cert.Proof

end
